-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fresh_state [hPre_fresh_state : Cert.Pre_fresh_state.Facts] (m : (ℓ : Loc Cert.KernelIdeal.nD Cert.KernelIdeal.τ Cert.KernelIdeal.sig) → Buf (Elt Ideal) ℓ) : Prop :=
  ∀ c : Dev Cert.KernelIdeal.nD,
    (Cert.Pre_fresh_state.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).1 = (fun _ => 1#1)
    ∧ (Cert.Pre_fresh_state.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.1 = (fun _ => 1#1)
    ∧ (Cert.Pre_fresh_state.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.1 = (fun _ => 1#1)
    ∧ (Cert.Pre_fresh_state.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.1 = (fun _ => 1#1)
    ∧ (Cert.Pre_fresh_state.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.1 = (fun _ => 1#1)
    ∧ (Cert.Pre_fresh_state.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fresh_state [hPre_fresh_state : Cert.Pre_fresh_state.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fresh_state.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).1 = (fun _ => 1#1)
    ∧ (Cert.Pre_fresh_state.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.1 = (fun _ => 1#1)
    ∧ (Cert.Pre_fresh_state.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.1 = (fun _ => 1#1)
    ∧ (Cert.Pre_fresh_state.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.1 = (fun _ => 1#1)
    ∧ (Cert.Pre_fresh_state.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.1 = (fun _ => 1#1)
    ∧ (Cert.Pre_fresh_state.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_fresh_state [hKernelIdeal : Cert.KernelIdeal.Facts] [hPre_fresh_state : Cert.Pre_fresh_state.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fresh_state m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_fresh_state [hReferenceIdeal : Cert.ReferenceIdeal.Facts] [hPre_fresh_state : Cert.Pre_fresh_state.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fresh_state m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_fresh_state [hKernelIdeal : Cert.KernelIdeal.Facts] [hReferenceIdeal : Cert.ReferenceIdeal.Facts] [hPre_fresh_state : Cert.Pre_fresh_state.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fresh_state m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_fresh_state : Cert.Pre_fresh_state.Facts),
    quiescent_Kernel (hKernel := hKernel)
    ∧ quiescent_KernelIdeal (hKernelIdeal := hKernelIdeal)
    ∧ quiescent_KernelIdeal_pre_fresh_state (hKernelIdeal := hKernelIdeal) (hPre_fresh_state := hPre_fresh_state)
    ∧ quiescent_ReferenceIdeal (hReferenceIdeal := hReferenceIdeal)
    ∧ quiescent_ReferenceIdeal_pre_fresh_state (hReferenceIdeal := hReferenceIdeal) (hPre_fresh_state := hPre_fresh_state)
    ∧ preserves_Kernel_KernelIdeal
    ∧ algebraic_KernelIdeal_ReferenceIdeal_pre_fresh_state (hKernelIdeal := hKernelIdeal) (hReferenceIdeal := hReferenceIdeal) (hPre_fresh_state := hPre_fresh_state)
-- ==== Pre_fresh_state.lean ====
abbrev S10000x256 : Shape := ⟨2, ![10000, 256]⟩
abbrev S2x160000 : Shape := ⟨2, ![2, 160000]⟩
abbrev S160000 : Shape := ⟨1, ![160000]⟩
abbrev S10000x128 : Shape := ⟨2, ![10000, 128]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128 : S_.BroadcastsInDim S128 (![] : Fin 0 → Fin S128.rank)
  reducesTo_S128_S_d0 : S128.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg17 : FVec F S1 .f32) (main_v2 : IVec S_ 1) (main_v5 : IVec S_ 1) (main_v8 : IVec S_ 1) (main_v11 : IVec S_ 1) (main_v13 : IVec S128 1) (main_c_7 : IVec S_ 1) : IVec S_ 1 × IVec S_ 1 × IVec S_ 1 × IVec S_ 1 × IVec S_ 1 × IVec S_ 1 :=
  let main_v14 : IVec S_ 1 := (fun x v => Host.reduce IntOp.andi x v reducesTo_S128_S_d0 h_S_) main_v13 main_c_7
  let main_cst_8 : FVec F S_ .f32 := constant S_ .f32 0x00000000#32
  let main_v15 : FVec F S1 .f32 := broadcastInDim S1 ![] bcast_S_S1 main_cst_8
  let main_v16 : IVec S1 1 := cmpf .oeq main_arg17 main_v15
  let main_c_9 : IVec S_ 1 := constantI S_ 1 1#1
  let main_v17 : IVec S_ 1 := (fun x v => Host.reduce IntOp.andi x v reducesTo_S1_S_d0 h_S_) main_v16 main_c_9
  (main_v2, main_v5, main_v8, main_v11, main_v14, main_v17)

def fn {F : FTy → Type} [FloatOps F] (main_arg0 : FVec F S10000x256 .f32) (main_arg1 : IVec S2x160000 32) (main_arg2 : FVec F S160000 .f32) (main_arg3 : FVec F S10000x128 .f32) (main_arg4 : FVec F S256x128 .f32) (main_arg5 : FVec F S128 .f32) (main_arg6 : FVec F S128x128 .f32) (main_arg7 : FVec F S128 .f32) (main_arg8 : FVec F S256x128 .f32) (main_arg9 : FVec F S128 .f32) (main_arg10 : FVec F S128x128 .f32) (main_arg11 : FVec F S128 .f32) (main_arg12 : FVec F S256x128 .f32) (main_arg13 : FVec F S128 .f32) (main_arg14 : FVec F S128x128 .f32) (main_arg15 : FVec F S128 .f32) (main_arg16 : FVec F S128x1 .f32) (main_arg17 : FVec F S1 .f32) : IVec S_ 1 × IVec S_ 1 × IVec S_ 1 × IVec S_ 1 × IVec S_ 1 × IVec S_ 1 :=
  let main_cst : FVec F S_ .f32 := constant S_ .f32 0x00000000#32
  let main_v0 : FVec F S10000x128 .f32 := broadcastInDim S10000x128 ![] bcast_S_S10000x128 main_cst
  let main_v1 : IVec S10000x128 1 := cmpf .oeq main_arg3 main_v0
  let main_c : IVec S_ 1 := constantI S_ 1 1#1
  let main_v2 : IVec S_ 1 := (fun x v => Host.reduce IntOp.andi x v reducesTo_S10000x128_S_d0_1 h_S_) main_v1 main_c
  let main_cst_0 : FVec F S_ .f32 := constant S_ .f32 0x00000000#32
  let main_v3 : FVec F S128 .f32 := broadcastInDim S128 ![] bcast_S_S128 main_cst_0
  let main_v4 : IVec S128 1 := cmpf .oeq main_arg5 main_v3
  let main_c_1 : IVec S_ 1 := constantI S_ 1 1#1
  let main_v5 : IVec S_ 1 := (fun x v => Host.reduce IntOp.andi x v reducesTo_S128_S_d0 h_S_) main_v4 main_c_1
  let main_cst_2 : FVec F S_ .f32 := constant S_ .f32 0x00000000#32
  let main_v6 : FVec F S128 .f32 := broadcastInDim S128 ![] bcast_S_S128 main_cst_2
  let main_v7 : IVec S128 1 := cmpf .oeq main_arg7 main_v6
  let main_c_3 : IVec S_ 1 := constantI S_ 1 1#1
  let main_v8 : IVec S_ 1 := (fun x v => Host.reduce IntOp.andi x v reducesTo_S128_S_d0 h_S_) main_v7 main_c_3
  let main_cst_4 : FVec F S_ .f32 := constant S_ .f32 0x00000000#32
  let main_v9 : FVec F S128 .f32 := broadcastInDim S128 ![] bcast_S_S128 main_cst_4
  let main_v10 : IVec S128 1 := cmpf .oeq main_arg13 main_v9
  let main_c_5 : IVec S_ 1 := constantI S_ 1 1#1
  let main_v11 : IVec S_ 1 := (fun x v => Host.reduce IntOp.andi x v reducesTo_S128_S_d0 h_S_) main_v10 main_c_5
  let main_cst_6 : FVec F S_ .f32 := constant S_ .f32 0x00000000#32
  let main_v12 : FVec F S128 .f32 := broadcastInDim S128 ![] bcast_S_S128 main_cst_6
  let main_v13 : IVec S128 1 := cmpf .oeq main_arg15 main_v12
  let main_c_7 : IVec S_ 1 := constantI S_ 1 1#1
  fn_part1 (F := F) main_arg17 main_v2 main_v5 main_v8 main_v11 main_v13 main_c_7
-- ==== Kernel.lean ====
abbrev S10000x256 : Shape := ⟨2, ![10000, 256]⟩
abbrev S2x160000 : Shape := ⟨2, ![2, 160000]⟩
abbrev S160000 : Shape := ⟨1, ![160000]⟩
abbrev S10000x128 : Shape := ⟨2, ![10000, 128]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S10x1x1000 : Shape := ⟨3, ![10, 1, 1000]⟩
abbrev S48000x256 : Shape := ⟨2, ![48000, 256]⟩
abbrev S8000x128 : Shape := ⟨2, ![8000, 128]⟩
abbrev S4 : Shape := ⟨1, ![4]⟩
abbrev S8 : Shape := ⟨1, ![8]⟩
abbrev S_ : Shape := ⟨0, ![]⟩
abbrev S4000x256 : Shape := ⟨2, ![4000, 256]⟩
abbrev S3000x256 : Shape := ⟨2, ![3000, 256]⟩
abbrev S2000x256 : Shape := ⟨2, ![2000, 256]⟩
abbrev S1000x256 : Shape := ⟨2, ![1000, 256]⟩
abbrev S1000x128 : Shape := ⟨2, ![1000, 128]⟩
abbrev S1000x1 : Shape := ⟨2, ![1000, 1]⟩
abbrev S1x1000 : Shape := ⟨2, ![1, 1000]⟩
abbrev S1x1x1000 : Shape := ⟨3, ![1, 1, 1000]⟩
abbrev S10000x1 : Shape := ⟨2, ![10000, 1]⟩

abbrev nBuf : Space → Nat
  | .hbm => 21
  | .vmem => 6
  | .smem => 0
  | _ => 0

abbrev bufTy : (tb : Table) → Fin (tcTables nBuf tb) → BufTy
  | .hbm, ⟨0, _⟩ => ⟨S10000x256, .f32⟩
  | .hbm, ⟨1, _⟩ => ⟨S2x160000, .i32⟩
  | .hbm, ⟨2, _⟩ => ⟨S160000, .f32⟩
  | .hbm, ⟨3, _⟩ => ⟨S10000x128, .f32⟩
  | .hbm, ⟨4, _⟩ => ⟨S256x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S256x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x1, .f32⟩
  | .hbm, ⟨17, _⟩ => ⟨S1, .f32⟩
  | .hbm, ⟨18, _⟩ => ⟨S10x1x1000, .f32⟩
  | .hbm, ⟨19, _⟩ => ⟨S10000x128, .f32⟩
  | .hbm, ⟨20, _⟩ => ⟨S10000x1, .f32⟩
  | .local _ .vmem, ⟨0, _⟩ => ⟨S256x128, .f32⟩
  | .local _ .vmem, ⟨1, _⟩ => ⟨S256x128, .f32⟩
  | .local _ .vmem, ⟨2, _⟩ => ⟨S128x1, .f32⟩
  | .local _ .vmem, ⟨3, _⟩ => ⟨S10x1x1000, .f32⟩
  | .local _ .vmem, ⟨4, _⟩ => ⟨S48000x256, .f32⟩
  | .local _ .vmem, ⟨5, _⟩ => ⟨S8000x128, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0_0 : Ref sig .tc := ⟨.hbm, 18, rfl⟩
abbrev main_v0_1 : Ref sig .tc := ⟨.hbm, 19, rfl⟩
abbrev main_v1 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10x1x1000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S10000x256 : Shape := ⟨2, ![10000, 256]⟩
abbrev S2x160000 : Shape := ⟨2, ![2, 160000]⟩
abbrev S160000 : Shape := ⟨1, ![160000]⟩
abbrev S10000x128 : Shape := ⟨2, ![10000, 128]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x128 : Shape := ⟨2, ![1, 128]⟩
abbrev S_ : Shape := ⟨0, ![]⟩
abbrev S10000x1 : Shape := ⟨2, ![10000, 1]⟩
abbrev S1x1 : Shape := ⟨2, ![1, 1]⟩

abbrev nBuf : Space → Nat
  | .hbm => 73
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S2x160000, .i32⟩
  | .hbm, ⟨2, _⟩ => ⟨S160000, .f32⟩
  | .hbm, ⟨3, _⟩ => ⟨S10000x128, .f32⟩
  | .hbm, ⟨4, _⟩ => ⟨S256x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S256x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x1, .f32⟩
  | .hbm, ⟨17, _⟩ => ⟨S1, .f32⟩
  | .hbm, ⟨18, _⟩ => ⟨S10000x128, .f32⟩
  | .hbm, ⟨19, _⟩ => ⟨S1x128, .f32⟩
  | .hbm, ⟨20, _⟩ => ⟨S10000x128, .f32⟩
  | .hbm, ⟨21, _⟩ => ⟨S10000x128, .f32⟩
  | .hbm, ⟨22, _⟩ => ⟨S10000x128, .f32⟩
  | .hbm, ⟨23, _⟩ => ⟨S10000x128, .f32⟩
  | .hbm, ⟨24, _⟩ => ⟨S1x128, .f32⟩
  | .hbm, ⟨25, _⟩ => ⟨S10000x128, .f32⟩
  | .hbm, ⟨26, _⟩ => ⟨S10000x128, .f32⟩
  | .hbm, ⟨27, _⟩ => ⟨S10000x128, .f32⟩
  | .hbm, ⟨28, _⟩ => ⟨S10000x128, .f32⟩
  | .hbm, ⟨29, _⟩ => ⟨S_, .f32⟩
  | .hbm, ⟨30, _⟩ => ⟨S10000x128, .f32⟩
  | .hbm, ⟨31, _⟩ => ⟨S10000x128, .f32⟩
  | .hbm, ⟨32, _⟩ => ⟨S_, .f32⟩
  | .hbm, ⟨33, _⟩ => ⟨S10000x128, .f32⟩
  | .hbm, ⟨34, _⟩ => ⟨S10000x128, .f32⟩
  | .hbm, ⟨35, _⟩ => ⟨S10000x128, .f32⟩
  | .hbm, ⟨36, _⟩ => ⟨S1x128, .f32⟩
  | .hbm, ⟨37, _⟩ => ⟨S10000x128, .f32⟩
  | .hbm, ⟨38, _⟩ => ⟨S10000x128, .f32⟩
  | .hbm, ⟨39, _⟩ => ⟨S10000x128, .f32⟩
  | .hbm, ⟨40, _⟩ => ⟨S10000x128, .f32⟩
  | .hbm, ⟨41, _⟩ => ⟨S1x128, .f32⟩
  | .hbm, ⟨42, _⟩ => ⟨S10000x128, .f32⟩
  | .hbm, ⟨43, _⟩ => ⟨S10000x128, .f32⟩
  | .hbm, ⟨44, _⟩ => ⟨S10000x128, .f32⟩
  | .hbm, ⟨45, _⟩ => ⟨S10000x128, .f32⟩
  | .hbm, ⟨46, _⟩ => ⟨S_, .f32⟩
  | .hbm, ⟨47, _⟩ => ⟨S10000x128, .f32⟩
  | .hbm, ⟨48, _⟩ => ⟨S10000x128, .f32⟩
  | .hbm, ⟨49, _⟩ => ⟨S_, .f32⟩
  | .hbm, ⟨50, _⟩ => ⟨S10000x128, .f32⟩
  | .hbm, ⟨51, _⟩ => ⟨S10000x128, .f32⟩
  | .hbm, ⟨52, _⟩ => ⟨S10000x128, .f32⟩
  | .hbm, ⟨53, _⟩ => ⟨S1x128, .f32⟩
  | .hbm, ⟨54, _⟩ => ⟨S10000x128, .f32⟩
  | .hbm, ⟨55, _⟩ => ⟨S10000x128, .f32⟩
  | .hbm, ⟨56, _⟩ => ⟨S10000x128, .f32⟩
  | .hbm, ⟨57, _⟩ => ⟨S10000x128, .f32⟩
  | .hbm, ⟨58, _⟩ => ⟨S10000x128, .f32⟩
  | .hbm, ⟨59, _⟩ => ⟨S1x128, .f32⟩
  | .hbm, ⟨60, _⟩ => ⟨S10000x128, .f32⟩
  | .hbm, ⟨61, _⟩ => ⟨S10000x128, .f32⟩
  | .hbm, ⟨62, _⟩ => ⟨S10000x128, .f32⟩
  | .hbm, ⟨63, _⟩ => ⟨S10000x128, .f32⟩
  | .hbm, ⟨64, _⟩ => ⟨S_, .f32⟩
  | .hbm, ⟨65, _⟩ => ⟨S10000x128, .f32⟩
  | .hbm, ⟨66, _⟩ => ⟨S10000x128, .f32⟩
  | .hbm, ⟨67, _⟩ => ⟨S10000x128, .f32⟩
  | .hbm, ⟨68, _⟩ => ⟨S10000x128, .f32⟩
  | .hbm, ⟨69, _⟩ => ⟨S10000x1, .f32⟩
  | .hbm, ⟨70, _⟩ => ⟨S1x1, .f32⟩
  | .hbm, ⟨71, _⟩ => ⟨S10000x1, .f32⟩
  | .hbm, ⟨72, _⟩ => ⟨S10000x1, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_cst_0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_1 : Ref sig .tc := ⟨.hbm, 46, rfl⟩
abbrev main_v26 : Ref sig .tc := ⟨.hbm, 47, rfl⟩
abbrev main_v27 : Ref sig .tc := ⟨.hbm, 48, rfl⟩
abbrev main_cst_2 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_3 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩

abbrev nD : Nat := 1
abbrev τ : Topo := Topo.v7x

variable {F : FTy → Type} [FloatOps F]
-- ==== Proof.Blocks.lean ====
/-
  Hand-written, untrusted. WHAT ONE BLOCK OF A THOUSAND ROWS COMPUTES, and the two results put together from ten such
  blocks. The kernel cuts the ten thousand rows of its input into ten blocks. `xrows` is one block of the input, `hblk`
  the state rows computed from it, `oblk` the block's row of the output array; `hfin` and `ofin` are the two whole
  results, read block by block. The rest of the file reads the lists of writes that the run leaves in the kernel's
  buffers: a load from the input buffer after the four copies in (`xload`), a slot of the state buffer right after
  its store (`slot_read`), the state rows after the ten copies out (`hm_read`), the output block after its ten stores (`om_read`).
-/
module

public import proofs.«01_k».proof.Proof.Gen.KernelIdeal.Skeleton
public import Idealize.ShloMosaic.Lib.Pointwise.Index
public import Idealize.ShloMosaic.Lib.VecWindow
public import Idealize.ShloMosaic.Lib.WholeRead
public import Idealize.ShloMosaic.Lib.WritesUnit
public import Idealize.ShloMosaic.Lib.Pipeline.Value
public import Idealize.ShloMosaic.Lib.Ring
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- The buffers that the pipeline does not stage: the input rows and the state rows in HBM, and the two scratch buffers. -/
abbrev xM : Memref sig .tc .hbm S10000x256 .f32 := Memref.whole main_arg0
abbrev hM : Memref sig .tc .hbm S10000x128 .f32 := Memref.whole main_v0_1
abbrev xbufM : Memref sig .tc .vmem S48000x256 .f32 := Memref.whole cc0_scratch0
abbrev hbufM : Memref sig .tc .vmem S8000x128 .f32 := Memref.whole cc0_scratch1

/-! ## The two results, block by block -/

/-- Block `k` of the input: rows `1000 * k` to `1000 * k + 999`. -/
def xrows (x : Vec F S10000x256 .f32) (k : Fin 10) : Vec F S1000x256 .f32 := fun y =>
  x (ix2 ⟨1000 * k.val + (y (0 : Fin 2)).val, by
    have h0 : (y (0 : Fin 2)).val < 1000 := (y (0 : Fin 2)).isLt
    have hk := k.isLt; omega⟩ (y (1 : Fin 2)))

/-- The state rows of block `k`. -/
def hblk (x : Vec F S10000x256 .f32) (w1 w2 : Vec F S256x128 .f32) (k : Fin 10) : Vec F S1000x128 .f32 :=
  k0_pay5 (xrows x k) w1 w2

/-- The output row of block `k`. -/
def oblk (x : Vec F S10000x256 .f32) (w1 w2 : Vec F S256x128 .f32) (w3 : Vec F S128x1 .f32) (k : Fin 10) : Vec F S1x1x1000 .f32 :=
  k0_pay7 (hblk x w1 w2 k) w3

/-- All the state rows: row `i` is row `i mod 1000` of block `i / 1000`. -/
def hfin (x : Vec F S10000x256 .f32) (w1 w2 : Vec F S256x128 .f32) : Vec F S10000x128 .f32 := fun i =>
  have h0 : (i (0 : Fin 2)).val < 10000 := (i (0 : Fin 2)).isLt
  hblk x w1 w2 ⟨(i (0 : Fin 2)).val / 1000, by omega⟩ (ix2 ⟨(i (0 : Fin 2)).val % 1000, by omega⟩ (i (1 : Fin 2)))

/-- The whole output: its row `k` is block `k`'s. -/
def ofin (x : Vec F S10000x256 .f32) (w1 w2 : Vec F S256x128 .f32) (w3 : Vec F S128x1 .f32) : Vec F S10x1x1000 .f32 := fun i =>
  oblk x w1 w2 w3 (i (0 : Fin 3)) (ix3 (0 : Fin 1) (0 : Fin 1) (i (2 : Fin 3)))

/-! ## Reading the lists of writes -/

/-- A unit-stride rectangle of whole rows of a rank-2 shape holds an index whose row is in its range. -/
theorem mem_rows {n d s : ℕ} (o : ℕ) (inb : ∀ a, (![o, 0] : Fin 2 → ℕ) a + (⟨2, ![s, d]⟩ : Shape).size a ≤ (⟨2, ![n, d]⟩ : Shape).size a)
    (y : (⟨2, ![n, d]⟩ : Shape).Idx) (h1 : o ≤ (y (0 : Fin 2)).val) (h2 : (y (0 : Fin 2)).val < o + s) :
    y ∈ (Rect.unit (s := ⟨2, ![n, d]⟩) ![o, 0] (⟨2, ![s, d]⟩ : Shape).size inb).set := by
  rw [Rect.mem_set_unit]
  intro a
  match a with
  | ⟨0, _⟩ => exact ⟨h1, h2⟩
  | ⟨1, _⟩ =>
    have h : (y (1 : Fin 2)).val < d := (y (1 : Fin 2)).isLt
    exact ⟨Nat.zero_le _, by show (y (1 : Fin 2)).val < 0 + d; omega⟩

/-- The four copies into the input buffer, newest first. -/
abbrev xpieces (d9 : S1000x256.Idx → Elt F .f32) (d7 : S2000x256.Idx → Elt F .f32) (d4 : S3000x256.Idx → Elt F .f32)
    (d0 : S4000x256.Idx → Elt F .f32) : List (View.Piece (Elt F) S48000x256 .f32) :=
  [⟨Rect.unit (s := S48000x256) ![9000, 0] S1000x256.size inb_S48000x256_S1000x256_9000_0, d9⟩,
    ⟨Rect.unit (s := S48000x256) ![7000, 0] S2000x256.size inb_S48000x256_S2000x256_7000_0, d7⟩,
    ⟨Rect.unit (s := S48000x256) ![4000, 0] S3000x256.size inb_S48000x256_S3000x256_4000_0, d4⟩,
    ⟨Rect.unit (s := S48000x256) ![0, 0] S4000x256.size inb_S48000x256_S4000x256_0_0, d0⟩]

/-- The input rows as contents of the larger buffer (rows from the ten thousandth on are of no account). -/
def xwide (x : Vec F S10000x256 .f32) : Vec F S48000x256 .f32 := fun i =>
  x (ix2 ⟨(i (0 : Fin 2)).val % 10000, Nat.mod_lt _ (by decide)⟩ (i (1 : Fin 2)))

theorem xwide_emb (x : Vec F S10000x256 .f32) {s : ℕ} (o : ℕ)
    (inb : ∀ a, (![o, 0] : Fin 2 → ℕ) a + (⟨2, ![s, 256]⟩ : Shape).size a ≤ S48000x256.size a)
    (inb' : ∀ a, (![o, 0] : Fin 2 → ℕ) a + (⟨2, ![s, 256]⟩ : Shape).size a ≤ S10000x256.size a) (y : (⟨2, ![s, 256]⟩ : Shape).Idx) :
    x ((Rect.unit (s := S10000x256) ![o, 0] (⟨2, ![s, 256]⟩ : Shape).size inb').emb y)
      = xwide x ((Rect.unit (s := S48000x256) ![o, 0] (⟨2, ![s, 256]⟩ : Shape).size inb).emb y) := by
  show x _ = x _
  refine congrArg x (funext fun a => Fin.ext ?_)
  have h0 : (y (0 : Fin 2)).val < s := (y (0 : Fin 2)).isLt
  have hb : o + s ≤ 10000 := inb' (0 : Fin 2)
  match a with
  | ⟨0, _⟩ =>
    show o + 1 * (y (0 : Fin 2)).val = (o + 1 * (y (0 : Fin 2)).val) % 10000
    rw [Nat.mod_eq_of_lt (by omega)]
  | ⟨1, _⟩ => rfl

/-- A load of block `k` from the input buffer after the four copies reads block `k` of the input. -/
theorem xload (x : Vec F S10000x256 .f32) (d9 d7 d4 d0)
    (h9 : ∀ y, d9 y = x ((Rect.unit (s := S10000x256) ![9000, 0] S1000x256.size inb_S10000x256_S1000x256_9000_0).emb y))
    (h7 : ∀ y, d7 y = x ((Rect.unit (s := S10000x256) ![7000, 0] S2000x256.size inb_S10000x256_S2000x256_7000_0).emb y))
    (h4 : ∀ y, d4 y = x ((Rect.unit (s := S10000x256) ![4000, 0] S3000x256.size inb_S10000x256_S3000x256_4000_0).emb y))
    (h0 : ∀ y, d0 y = x ((Rect.unit (s := S10000x256) ![0, 0] S4000x256.size inb_S10000x256_S4000x256_0_0).emb y))
    (k : Fin 10) (o : ℕ) (inb : ∀ a, (![o, 0] : Fin 2 → ℕ) a + S1000x256.size a ≤ S48000x256.size a) (ho : o = 1000 * k.val) :
    xbufM.view.readCov (Val := Elt F) (xpieces d9 d7 d4 d0) (Rect.unit (s := S48000x256) ![o, 0] S1000x256.size inb).toLoadRect = xrows x k := by
  subst ho
  funext y
  have hy : (y (0 : Fin 2)).val < 1000 := (y (0 : Fin 2)).isLt
  have hk := k.isLt
  have hr : ((Rect.unit (s := S48000x256) ![1000 * k.val, 0] S1000x256.size inb).emb y (0 : Fin 2)).val = 1000 * k.val + (y (0 : Fin 2)).val := by
    show 1000 * k.val + 1 * (y (0 : Fin 2)).val = _; omega
  refine (View.read_writes_apply_of_pieces xbufM.view xbufM.view.junk (xwide x) (xpieces d9 d7 d4 d0) ?_
    ((Rect.unit (s := S48000x256) ![1000 * k.val, 0] S1000x256.size inb).emb y) ?_).trans ?_
  · intro p hp
    simp only [List.mem_cons, List.mem_nil_iff, or_false] at hp
    rcases hp with rfl | rfl | rfl | rfl
    · exact fun y => (h9 y).trans (xwide_emb x 9000 inb_S48000x256_S1000x256_9000_0 _ y)
    · exact fun y => (h7 y).trans (xwide_emb x 7000 inb_S48000x256_S2000x256_7000_0 _ y)
    · exact fun y => (h4 y).trans (xwide_emb x 4000 inb_S48000x256_S3000x256_4000_0 _ y)
    · exact fun y => (h0 y).trans (xwide_emb x 0 inb_S48000x256_S4000x256_0_0 _ y)
  · by_cases c4 : k.val < 4
    · exact ⟨_, List.mem_cons_of_mem _ (List.mem_cons_of_mem _ (List.mem_cons_of_mem _ List.mem_cons_self)),
        mem_rows 0 inb_S48000x256_S4000x256_0_0 _ (by omega) (by rw [hr]; omega)⟩
    by_cases c7 : k.val < 7
    · exact ⟨_, List.mem_cons_of_mem _ (List.mem_cons_of_mem _ List.mem_cons_self), mem_rows 4000 inb_S48000x256_S3000x256_4000_0 _ (by rw [hr]; omega) (by rw [hr]; omega)⟩
    by_cases c9 : k.val < 9
    · exact ⟨_, List.mem_cons_of_mem _ List.mem_cons_self, mem_rows 7000 inb_S48000x256_S2000x256_7000_0 _ (by rw [hr]; omega) (by rw [hr]; omega)⟩
    · exact ⟨_, List.mem_cons_self, mem_rows 9000 inb_S48000x256_S1000x256_9000_0 _ (by rw [hr]; omega) (by rw [hr]; omega)⟩
  · show x _ = x _
    refine congrArg x (funext fun a => Fin.ext ?_)
    match a with
    | ⟨0, _⟩ =>
      show ((Rect.unit (s := S48000x256) ![1000 * k.val, 0] S1000x256.size inb).emb y (0 : Fin 2)).val % 10000 = 1000 * k.val + (y (0 : Fin 2)).val
      rw [hr, Nat.mod_eq_of_lt (by omega)]
    | ⟨1, _⟩ => show 0 + 1 * (y (1 : Fin 2)).val = (y (1 : Fin 2)).val; omega

/-- The same where the four copies are the input's own rows. -/
theorem xblock (x : Vec F S10000x256 .f32) (k : Fin 10) (o : ℕ) (inb : ∀ a, (![o, 0] : Fin 2 → ℕ) a + S1000x256.size a ≤ S48000x256.size a)
    (ho : o = 1000 * k.val) :
    xbufM.view.readCov (Val := Elt F)
      (xpieces (fun y => x ((Rect.unit (s := S10000x256) ![9000, 0] S1000x256.size inb_S10000x256_S1000x256_9000_0).emb y))
        (fun y => x ((Rect.unit (s := S10000x256) ![7000, 0] S2000x256.size inb_S10000x256_S2000x256_7000_0).emb y))
        (fun y => x ((Rect.unit (s := S10000x256) ![4000, 0] S3000x256.size inb_S10000x256_S3000x256_4000_0).emb y))
        (fun y => x ((Rect.unit (s := S10000x256) ![0, 0] S4000x256.size inb_S10000x256_S4000x256_0_0).emb y)))
      (Rect.unit (s := S48000x256) ![o, 0] S1000x256.size inb).toLoadRect = xrows x k :=
  xload x _ _ _ _ (fun _ => rfl) (fun _ => rfl) (fun _ => rfl) (fun _ => rfl) k o inb ho

/-- A slot of the state buffer read right after the store into it reads what was stored. -/
theorem slot_read (c : Dev nD) (off : Fin 2 → ℕ) (inb : ∀ a, off a + S1000x128.size a ≤ S8000x128.size a) (pf)
    (f : Buf (Elt F) (hbufM.view.loc (c : Thread nD τ))) (w : S1000x128.Idx → Elt F .f32) (L : List (View.Piece (Elt F) S8000x128 .f32)) :
    ReadAs.same.apply (View.read (Elt F) (hbufM.slice (Rect.unit (s := S8000x128) off S1000x128.size inb) pf).view
      (hbufM.view.writes (Elt F) f (⟨Rect.unit (s := S8000x128) off S1000x128.size inb, w⟩ :: L))) = w :=
  funext fun y => View.read_writes_cons_emb hbufM.view f (Rect.unit (s := S8000x128) off S1000x128.size inb) w L y

/-- So a slot read right after a block's state rows were stored into it reads those rows. -/
theorem slot_block (c : Dev nD) (off : Fin 2 → ℕ) (inb : ∀ a, off a + S1000x128.size a ≤ S8000x128.size a) (pf)
    (f : Buf (Elt F) (hbufM.view.loc (c : Thread nD τ))) (L : List (View.Piece (Elt F) S8000x128 .f32)) (hs : S1000x128.ShapeCasts S1000x128)
    {x : Vec F S10000x256 .f32} {w1 w2 : Vec F S256x128 .f32} {k : Fin 10} {v : Vec F S1000x256 .f32} {u1 u2 : Vec F S256x128 .f32}
    (l1 : u1 = w1) (l2 : u2 = w2) (e : v = xrows x k) :
    ReadAs.same.apply (View.read (Elt F) (hbufM.slice (Rect.unit (s := S8000x128) off S1000x128.size inb) pf).view
      (hbufM.view.writes (Elt F) f (⟨Rect.unit (s := S8000x128) off S1000x128.size inb, shapeCast S1000x128 (k0_pay5 v u1 u2) hs⟩ :: L))) = hblk x w1 w2 k := by
  subst l1 l2 e
  exact (slot_read c off inb pf f _ L).trans (shapeCast_self _ _)

/-- A whole staged array read by one load is what it holds. -/
theorem load_whole {sp : Space} {S : Shape} {e : EltTy} (M : Memref sig .tc sp S e) (hM' : M.IsWhole) (w : S.Idx → Elt F e)
    {off : Fin S.rank → ℕ} (inb : ∀ a, off a + S.size a ≤ S.size a) :
    View.readAt (Elt F) M.view (Rect.unit off S.size inb).toLoadRect (hM'.unread w) = w := by
  rw [View.readAt_full, hM'.read_unread]

/-- Block `k` of the state rows, placed at its rows, is the whole's. -/
theorem hfin_emb (x : Vec F S10000x256 .f32) (w1 w2 : Vec F S256x128 .f32) (k : Fin 10) (o : ℕ) (ho : o = 1000 * k.val)
    (inb : ∀ a, (![o, 0] : Fin 2 → ℕ) a + S1000x128.size a ≤ S10000x128.size a) (y : S1000x128.Idx) :
    hblk x w1 w2 k y = hfin x w1 w2 ((Rect.unit (s := S10000x128) ![o, 0] S1000x128.size inb).emb y) := by
  subst ho
  have hy : (y (0 : Fin 2)).val < 1000 := (y (0 : Fin 2)).isLt
  have hr : ((Rect.unit (s := S10000x128) ![1000 * k.val, 0] S1000x128.size inb).emb y (0 : Fin 2)).val = 1000 * k.val + (y (0 : Fin 2)).val := by
    show 1000 * k.val + 1 * (y (0 : Fin 2)).val = _; omega
  unfold hfin
  refine congr (congrArg (hblk x w1 w2) (Fin.ext ?_)) (funext fun a => Fin.ext ?_)
  · show k.val = ((Rect.unit (s := S10000x128) ![1000 * k.val, 0] S1000x128.size inb).emb y (0 : Fin 2)).val / 1000
    rw [hr]; omega
  · match a with
    | ⟨0, _⟩ =>
      show (y (0 : Fin 2)).val = ((Rect.unit (s := S10000x128) ![1000 * k.val, 0] S1000x128.size inb).emb y (0 : Fin 2)).val % 1000
      rw [hr]; omega
    | ⟨1, _⟩ => show (y (1 : Fin 2)).val = 0 + 1 * (y (1 : Fin 2)).val; omega

/-- The output row of block `k`, placed at its row, is the whole's. -/
theorem ofin_emb (x : Vec F S10000x256 .f32) (w1 w2 : Vec F S256x128 .f32) (w3 : Vec F S128x1 .f32) (k : Fin 10) (o : ℕ) (ho : o = k.val)
    (inb : ∀ a, (![o, 0, 0] : Fin 3 → ℕ) a + S1x1x1000.size a ≤ S10x1x1000.size a) (y : S1x1x1000.Idx) :
    oblk x w1 w2 w3 k y = ofin x w1 w2 w3 ((Rect.unit (s := S10x1x1000) ![o, 0, 0] S1x1x1000.size inb).emb y) := by
  subst ho
  have h0 : (y (0 : Fin 3)).val < 1 := (y (0 : Fin 3)).isLt
  have h1 : (y (1 : Fin 3)).val < 1 := (y (1 : Fin 3)).isLt
  unfold ofin
  refine congr (congrArg (oblk x w1 w2 w3) (Fin.ext ?_)) (funext fun a => Fin.ext ?_)
  · show k.val = k.val + 1 * (y (0 : Fin 3)).val; omega
  · match a with
    | ⟨0, _⟩ => show (y (0 : Fin 3)).val = 0; omega
    | ⟨1, _⟩ => show (y (1 : Fin 3)).val = 0; omega
    | ⟨2, _⟩ => show (y (2 : Fin 3)).val = 0 + 1 * (y (2 : Fin 3)).val; omega

/-- The state rows after the ten copies out are the whole result, whatever the buffer held. -/
theorem hm_read (c : Dev nD) (f : Buf (Elt F) (hM.view.loc (c : Thread nD τ))) (x : Vec F S10000x256 .f32) (w1 w2 : Vec F S256x128 .f32)
    (p0 p1 p2 p3 p4 p5 p6 p7 p8 p9 : S1000x128.Idx → Elt F .f32)
    (e0 : p0 = hblk x w1 w2 0) (e1 : p1 = hblk x w1 w2 1) (e2 : p2 = hblk x w1 w2 2) (e3 : p3 = hblk x w1 w2 3) (e4 : p4 = hblk x w1 w2 4) (e5 : p5 = hblk x w1 w2 5) (e6 : p6 = hblk x w1 w2 6) (e7 : p7 = hblk x w1 w2 7) (e8 : p8 = hblk x w1 w2 8) (e9 : p9 = hblk x w1 w2 9) :
    hM.view.read (Elt F) (hM.view.writes (Elt F) f
      [⟨Rect.unit (s := S10000x128) ![9000, 0] S1000x128.size inb_S10000x128_S1000x128_9000_0, p9⟩,
        ⟨Rect.unit (s := S10000x128) ![8000, 0] S1000x128.size inb_S10000x128_S1000x128_8000_0, p8⟩,
        ⟨Rect.unit (s := S10000x128) ![7000, 0] S1000x128.size inb_S10000x128_S1000x128_7000_0, p7⟩,
        ⟨Rect.unit (s := S10000x128) ![6000, 0] S1000x128.size inb_S10000x128_S1000x128_6000_0, p6⟩,
        ⟨Rect.unit (s := S10000x128) ![5000, 0] S1000x128.size inb_S10000x128_S1000x128_5000_0, p5⟩,
        ⟨Rect.unit (s := S10000x128) ![4000, 0] S1000x128.size inb_S10000x128_S1000x128_4000_0, p4⟩,
        ⟨Rect.unit (s := S10000x128) ![3000, 0] S1000x128.size inb_S10000x128_S1000x128_3000_0, p3⟩,
        ⟨Rect.unit (s := S10000x128) ![2000, 0] S1000x128.size inb_S10000x128_S1000x128_2000_0, p2⟩,
        ⟨Rect.unit (s := S10000x128) ![1000, 0] S1000x128.size inb_S10000x128_S1000x128_1000_0, p1⟩,
        ⟨Rect.unit (s := S10000x128) ![0, 0] S1000x128.size inb_S10000x128_S1000x128_0_0, p0⟩]) = hfin x w1 w2 := by
  funext y
  refine View.read_writes_apply_of_pieces hM.view f (hfin x w1 w2) _ ?_ y (View.cover_of_tiledL _ ![1000, 128] (by sl_kernel_rfl) y)
  intro p hp
  simp only [List.mem_cons, List.mem_nil_iff, or_false] at hp
  subst e0 e1 e2 e3 e4 e5 e6 e7 e8 e9
  rcases hp with rfl | rfl | rfl | rfl | rfl | rfl | rfl | rfl | rfl | rfl <;> (refine fun y => hfin_emb x w1 w2 _ _ ?_ (by decide) y; rfl)

/-- The output block after its ten stores is the whole result, whatever the buffer held. -/
theorem om_read (M : Memref sig .tc .vmem S10x1x1000 .f32) (f : M.view.ty.Contents (Elt F)) (x : Vec F S10000x256 .f32)
    (w1 w2 : Vec F S256x128 .f32) (w3 : Vec F S128x1 .f32)
    (p0 p1 p2 p3 p4 p5 p6 p7 p8 p9 : S1x1x1000.Idx → Elt F .f32)
    (e0 : p0 = oblk x w1 w2 w3 0) (e1 : p1 = oblk x w1 w2 w3 1) (e2 : p2 = oblk x w1 w2 w3 2) (e3 : p3 = oblk x w1 w2 w3 3) (e4 : p4 = oblk x w1 w2 w3 4) (e5 : p5 = oblk x w1 w2 w3 5) (e6 : p6 = oblk x w1 w2 w3 6) (e7 : p7 = oblk x w1 w2 w3 7) (e8 : p8 = oblk x w1 w2 w3 8) (e9 : p9 = oblk x w1 w2 w3 9) :
    M.view.read (Elt F) (M.view.writes (Elt F) f
      [⟨Rect.unit (s := S10x1x1000) ![9, 0, 0] S1x1x1000.size inb_S10x1x1000_S1x1x1000_9_0_0, p9⟩,
        ⟨Rect.unit (s := S10x1x1000) ![8, 0, 0] S1x1x1000.size inb_S10x1x1000_S1x1x1000_8_0_0, p8⟩,
        ⟨Rect.unit (s := S10x1x1000) ![7, 0, 0] S1x1x1000.size inb_S10x1x1000_S1x1x1000_7_0_0, p7⟩,
        ⟨Rect.unit (s := S10x1x1000) ![6, 0, 0] S1x1x1000.size inb_S10x1x1000_S1x1x1000_6_0_0, p6⟩,
        ⟨Rect.unit (s := S10x1x1000) ![5, 0, 0] S1x1x1000.size inb_S10x1x1000_S1x1x1000_5_0_0, p5⟩,
        ⟨Rect.unit (s := S10x1x1000) ![4, 0, 0] S1x1x1000.size inb_S10x1x1000_S1x1x1000_4_0_0, p4⟩,
        ⟨Rect.unit (s := S10x1x1000) ![3, 0, 0] S1x1x1000.size inb_S10x1x1000_S1x1x1000_3_0_0, p3⟩,
        ⟨Rect.unit (s := S10x1x1000) ![2, 0, 0] S1x1x1000.size inb_S10x1x1000_S1x1x1000_2_0_0, p2⟩,
        ⟨Rect.unit (s := S10x1x1000) ![1, 0, 0] S1x1x1000.size inb_S10x1x1000_S1x1x1000_1_0_0, p1⟩,
        ⟨Rect.unit (s := S10x1x1000) ![0, 0, 0] S1x1x1000.size inb_S10x1x1000_S1x1x1000_0_0_0, p0⟩]) = ofin x w1 w2 w3 := by
  funext y
  refine View.read_writes_apply_of_pieces M.view f (ofin x w1 w2 w3) _ ?_ y (View.cover_of_tiledL _ ![1, 1, 1000] (by sl_kernel_rfl) y)
  intro p hp
  simp only [List.mem_cons, List.mem_nil_iff, or_false] at hp
  subst e0 e1 e2 e3 e4 e5 e6 e7 e8 e9
  rcases hp with rfl | rfl | rfl | rfl | rfl | rfl | rfl | rfl | rfl | rfl <;> (refine fun y => ofin_emb x w1 w2 w3 _ _ ?_ (by decide) y; rfl)

end Cert.KernelIdeal.Hand

end
-- ==== Proof.Run.lean ====
/-
  Hand-written, untrusted. THE BODY'S RUN. The body starts four copies of the input's rows, computes ten blocks of a
  thousand rows, waiting for a copy where it first needs it, stores each block's state rows into one of eight slots and copies
  the slot out, waiting for a slot's earlier copy before it stores there again. `body_run` says what the buffers hold at
  the end and that every counter is zero again.
-/
module

public import proofs.«01_k».proof.Proof.Gen.KernelIdeal.Launch
public import proofs.«01_k».proof.Proof.Gen.KernelIdeal.Skeleton
public import proofs.«01_k».proof.Proof.Blocks
public import proofs.«01_k».proof.Proof.Gen.KernelIdeal.Points
public import Idealize.ShloMosaic.Lib.Pipeline.FrameBody
public import Idealize.ShloMosaic.Lib.Pipeline.FrameSuffixV
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline's beside the transfers' counters. -/
local notation "𝕄" => MT nD τ sig Unit (Elt F) ℕ (Pipeline.UD sig nD τ) ℕ

/-- A buffer held whole at the contents `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

set_option maxHeartbeats 4000000 in
set_option sl_exec.dmaWindow true in
/-- The body, run from the input rows `x` and the three weights: the output block ends at `ofin`, the state rows at `hfin`,
    the inputs are as they were, the two scratch buffers hold something, and the twelve copies' counters are zero. -/
theorem body_run (c : Dev nD) (arg1 : Memref sig .tc .vmem S256x128 .f32) (harg1 : arg1.IsWhole)
    (arg2 : Memref sig .tc .vmem S256x128 .f32) (harg2 : arg2.IsWhole) (arg3 : Memref sig .tc .vmem S128x1 .f32) (harg3 : arg3.IsWhole)
    (arg4 : Memref sig .tc .vmem S10x1x1000 .f32) (harg4 : arg4.IsWhole)
    (x : Buf (Elt F) (xM.view.loc (c : Thread nD τ))) (h0 : Buf (Elt F) (hM.view.loc (c : Thread nD τ)))
    (s0 : Buf (Elt F) (xbufM.view.loc (c : Thread nD τ))) (s1 : Buf (Elt F) (hbufM.view.loc (c : Thread nD τ)))
    (w1 w2 : Vec F S256x128 .f32) (w3 : Vec F S128x1 .f32) (W : Waits sig Unit) (K : PUnit → sProp 𝕄) :
        iprop(owns (c : Thread nD τ) arg1 fullShare w1 ∗ owns (c : Thread nD τ) arg2 fullShare w2 ∗ owns (c : Thread nD τ) arg3 fullShare w3
            ∗ (∃ d, owns (c : Thread nD τ) arg4 fullShare d)
            ∗ pt c xM x ∗ pt c hM h0 ∗ pt c xbufM s0 ∗ pt c hbufM s1
            ∗ semVal ((c : Thread nD τ), SemLoc.dma 4) 0 ∗ semVal ((c : Thread nD τ), SemLoc.dma 5) 0
            ∗ semVal ((c : Thread nD τ), SemLoc.dma 6) 0 ∗ semVal ((c : Thread nD τ), SemLoc.dma 7) 0
            ∗ semVal ((c : Thread nD τ), SemLoc.dma 8) 0 ∗ semVal ((c : Thread nD τ), SemLoc.dma 9) 0
            ∗ semVal ((c : Thread nD τ), SemLoc.dma 10) 0 ∗ semVal ((c : Thread nD τ), SemLoc.dma 11) 0
            ∗ semVal ((c : Thread nD τ), SemLoc.dma 12) 0 ∗ semVal ((c : Thread nD τ), SemLoc.dma 13) 0
            ∗ semVal ((c : Thread nD τ), SemLoc.dma 14) 0 ∗ semVal ((c : Thread nD τ), SemLoc.dma 15) 0
            ∗ owes (c : Thread nD τ) 0 W
            ∗ (iprop(owns (c : Thread nD τ) arg1 fullShare w1 ∗ owns (c : Thread nD τ) arg2 fullShare w2 ∗ owns (c : Thread nD τ) arg3 fullShare w3
                ∗ owns (c : Thread nD τ) arg4 fullShare (ofin x w1 w2 w3)
                ∗ pt c xM x ∗ pt c hM (hfin x w1 w2) ∗ (∃ f, pt c xbufM f) ∗ (∃ f, pt c hbufM f)
                ∗ semVal ((c : Thread nD τ), SemLoc.dma 4) 0 ∗ semVal ((c : Thread nD τ), SemLoc.dma 5) 0
                ∗ semVal ((c : Thread nD τ), SemLoc.dma 6) 0 ∗ semVal ((c : Thread nD τ), SemLoc.dma 7) 0
                ∗ semVal ((c : Thread nD τ), SemLoc.dma 8) 0 ∗ semVal ((c : Thread nD τ), SemLoc.dma 9) 0
                ∗ semVal ((c : Thread nD τ), SemLoc.dma 10) 0 ∗ semVal ((c : Thread nD τ), SemLoc.dma 11) 0
                ∗ semVal ((c : Thread nD τ), SemLoc.dma 12) 0 ∗ semVal ((c : Thread nD τ), SemLoc.dma 13) 0
                ∗ semVal ((c : Thread nD τ), SemLoc.dma 14) 0 ∗ semVal ((c : Thread nD τ), SemLoc.dma 15) 0
                ∗ (∃ W', owes (c : Thread nD τ) 0 W')) -∗ K ⟨⟩))
          ⊢ wp frame (wpE (defs₀ (F := F)) Variants.none c none) Set.univ
              (cc0__gru_body xM (Memref.isWhole_whole _) arg1 harg1 arg2 harg2 arg3 harg3 arg4 harg4 hM (Memref.isWhole_whole _)
                xbufM (Memref.isWhole_whole _) hbufM (Memref.isWhole_whole _) cc0_scratch2 cc0_scratch3) K := by
  simp only [cc0__gru_body_eq_skeleton]; unfold cc0__gru_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel
    k0_part10_skel k0_part11_skel
  unfold owns
  iintro ⟨⟨%f1, %hf1, H1⟩, ⟨%f2, %hf2, H2⟩, ⟨%f3, %hf3, H3⟩, ⟨%d4, %f4, -, H4⟩, Hx, Hh, Hs0, Hs1, Hq4, Hq5, Hq6, Hq7, Hq8, Hq9, Hq10, Hq11, Hq12,
    Hq13, Hq14, Hq15, HW, Hk⟩
  obtain rfl := harg1.eq_unread hf1; obtain rfl := harg2.eq_unread hf2; obtain rfl := harg3.eq_unread hf3
  sl_exec
  have l1 := load_whole arg1 harg1 w1 inb_S256x128_S256x128_0_0
  have l2 := load_whole arg2 harg2 w2 inb_S256x128_S256x128_0_0
  have l3 := load_whole arg3 harg3 w3 inb_S128x1_S128x1_0_0
  have e0 : body_run.sl.v20 c x = xrows x 0 := xblock x 0 0 inb_S48000x256_S1000x256_0_0 rfl
  have e1 : body_run.sl.v43 c x = xrows x 1 := xblock x 1 1000 inb_S48000x256_S1000x256_1000_0 rfl
  have e2 : body_run.sl.v66 c x = xrows x 2 := xblock x 2 2000 inb_S48000x256_S1000x256_2000_0 rfl
  have e3 : body_run.sl.v89 c x = xrows x 3 := xblock x 3 3000 inb_S48000x256_S1000x256_3000_0 rfl
  have e4 : body_run.sl.v116 c x = xrows x 4 := xblock x 4 4000 inb_S48000x256_S1000x256_4000_0 rfl
  have e5 : body_run.sl.v139 c x = xrows x 5 := xblock x 5 5000 inb_S48000x256_S1000x256_5000_0 rfl
  have e6 : body_run.sl.v162 c x = xrows x 6 := xblock x 6 6000 inb_S48000x256_S1000x256_6000_0 rfl
  have e7 : body_run.sl.v189 c x = xrows x 7 := xblock x 7 7000 inb_S48000x256_S1000x256_7000_0 rfl
  have e8 : body_run.sl.v212 c x = xrows x 8 := xblock x 8 8000 inb_S48000x256_S1000x256_8000_0 rfl
  have e9 : body_run.sl.v243 c x = xrows x 9 := xblock x 9 9000 inb_S48000x256_S1000x256_9000_0 rfl
  have q0 : body_run.sl.dma5 c arg1 harg1 arg2 harg2 x s1 w1 w2 = hblk x w1 w2 0 := by
    delta body_run.sl.dma5 body_run.sl.Hs1_1
    exact slot_block c _ _ _ _ _ _ l1 l2 e0
  have q1 : body_run.sl.dma13 c arg1 harg1 arg2 harg2 x s1 w1 w2 = hblk x w1 w2 1 := by
    delta body_run.sl.dma13 body_run.sl.Hs1_2
    exact slot_block c _ _ _ _ _ _ l1 l2 e1
  have q2 : body_run.sl.dma21 c arg1 harg1 arg2 harg2 x s1 w1 w2 = hblk x w1 w2 2 := by
    delta body_run.sl.dma21 body_run.sl.Hs1_3
    exact slot_block c _ _ _ _ _ _ l1 l2 e2
  have q3 : body_run.sl.dma29 c arg1 harg1 arg2 harg2 x s1 w1 w2 = hblk x w1 w2 3 := by
    delta body_run.sl.dma29 body_run.sl.Hs1_4
    exact slot_block c _ _ _ _ _ _ l1 l2 e3
  have q4 : body_run.sl.dma37 c arg1 harg1 arg2 harg2 x s1 w1 w2 = hblk x w1 w2 4 := by
    delta body_run.sl.dma37 body_run.sl.Hs1_5
    exact slot_block c _ _ _ _ _ _ l1 l2 e4
  have q5 : body_run.sl.dma45 c arg1 harg1 arg2 harg2 x s1 w1 w2 = hblk x w1 w2 5 := by
    delta body_run.sl.dma45 body_run.sl.Hs1_6
    exact slot_block c _ _ _ _ _ _ l1 l2 e5
  have q6 : body_run.sl.dma53 c arg1 harg1 arg2 harg2 x s1 w1 w2 = hblk x w1 w2 6 := by
    delta body_run.sl.dma53 body_run.sl.Hs1_7
    exact slot_block c _ _ _ _ _ _ l1 l2 e6
  have q7 : body_run.sl.dma61 c arg1 harg1 arg2 harg2 x s1 w1 w2 = hblk x w1 w2 7 := by
    delta body_run.sl.dma61 body_run.sl.Hs1_8
    exact slot_block c _ _ _ _ _ _ l1 l2 e7
  have q8 : body_run.sl.dma69 c arg1 harg1 arg2 harg2 x s1 w1 w2 = hblk x w1 w2 8 := by
    delta body_run.sl.dma69 body_run.sl.Hs1_9
    exact slot_block c _ _ _ _ _ _ l1 l2 e8
  have q9 : body_run.sl.dma77 c arg1 harg1 arg2 harg2 x s1 w1 w2 = hblk x w1 w2 9 := by
    delta body_run.sl.dma77 body_run.sl.Hs1_10
    exact slot_block c _ _ _ _ _ _ l1 l2 e9
  have hh := hm_read c h0 x w1 w2 _ _ _ _ _ _ _ _ _ _ q0 q1 q2 q3 q4 q5 q6 q7 q8 q9
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; swap; · iexact H4
    ipureintro
    refine om_read arg4 f4 x w1 w2 w3 _ _ _ _ _ _ _ _ _ _ ?_ ?_ ?_ ?_ ?_ ?_ ?_ ?_ ?_ ?_
    all_goals
      rw [l1, l2, l3]; simp only [e0, e1, e2, e3, e4, e5, e6, e7, e8, e9]; rfl
  isplitl [Hx]; · iexact Hx
  isplitl [Hh]
  · rw [View.read_whole] at hh
    rw [← hh]; iexact Hh
  isplitl [Hs0]; · iexists _; iexact Hs0
  isplitl [Hs1]; · iexists _; iexact Hs1
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  iexists _; iexact HW

end Cert.KernelIdeal.Hand

end
-- ==== Proof.Launch.lean ====
/-
  The launch of the kernel: the pipeline with one point around the body's run, the transfers of the body's own, and
  the reshape of the first result that follows on the host. What comes out is the state in which the program ends:
  the second result is the rows of `hfin`, the first is `ofin` read in row-major order, every argument is as it was
  and every semaphore counter is zero.
-/
module

public import proofs.«01_k».proof.Proof.Run
public import proofs.«01_k».proof.Proof.Gen.KernelIdeal.Frame
public import Idealize.ShloMosaic.Lib.Pipeline.ValueKit.Geometry

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline's beside the transfers' counters. -/
local notation "𝕄" => MT nD τ sig Unit (Elt F) ℕ (Pipeline.UD sig nD τ) ℕ

variable (m : (ℓ : Loc nD τ sig) → Buf (Elt F) ℓ) (ρ : Dev nD → PrngReg)

/-! ## The cells and the buffers of the body's own transfers -/

/-- The twelve cells: four for the rows coming in, eight for the blocks going out. -/
abbrev osem0 : Fin 12 → SemLoc sig := fun j => (![SemLoc.dma 4, SemLoc.dma 5, SemLoc.dma 6, SemLoc.dma 7, SemLoc.dma 8, SemLoc.dma 9,
  SemLoc.dma 10, SemLoc.dma 11, SemLoc.dma 12, SemLoc.dma 13, SemLoc.dma 14, SemLoc.dma 15] : Fin 12 → SemLoc sig) j

theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0
          ∗ semVal ((c : Thread nD τ), SemLoc.dma 6) 0 ∗ semVal ((c : Thread nD τ), SemLoc.dma 7) 0
          ∗ semVal ((c : Thread nD τ), SemLoc.dma 8) 0 ∗ semVal ((c : Thread nD τ), SemLoc.dma 9) 0
          ∗ semVal ((c : Thread nD τ), SemLoc.dma 10) 0 ∗ semVal ((c : Thread nD τ), SemLoc.dma 11) 0
          ∗ semVal ((c : Thread nD τ), SemLoc.dma 12) 0 ∗ semVal ((c : Thread nD τ), SemLoc.dma 13) 0
          ∗ semVal ((c : Thread nD τ), SemLoc.dma 14) 0 ∗ semVal ((c : Thread nD τ), SemLoc.dma 15) 0) := by
  rw [Pipeline.ownSems0_eq_of_list c osem0 [0, 1, 2, 3, 4, 5, 6, 7, 8, 9, 10, 11] (by decide) (by decide)]; rfl

/-- The buffer the transfers read. -/
def H0 : Finset (Ref sig .tc) := {main_arg0}
/-- The buffer the transfers write. -/
def R0 : Finset (Ref sig .tc) := {main_v0_1}
theorem H0_sub : H0 ⊆ Pipeline.restRefs sig spec0 := by decide
theorem R0_sub : R0 ⊆ Pipeline.restRefs sig spec0 \ H0 := by decide

theorem readPts_eq (c : Dev nD) (f : (b : Ref sig .tc) → Buf (Elt F) ((c : Thread nD τ).loc b)) :
    (bigSep H0 (fun b => ((c : Thread nD τ).loc b) ↦{fullShare} f b) : sProp 𝕄) = pt c xM (f main_arg0) := by
  rw [BI.bigSep_eq_bigSepL_of_eq [main_arg0] (by decide) (by decide)]; rfl

theorem writtenPts_eq (c : Dev nD) (f : (b : Ref sig .tc) → Buf (Elt F) ((c : Thread nD τ).loc b)) :
    (bigSep R0 (fun b => ((c : Thread nD τ).loc b) ↦{fullShare} f b) : sProp 𝕄) = pt c hM (f main_v0_1) := by
  rw [BI.bigSep_eq_bigSepL_of_eq [main_v0_1] (by decide) (by decide)]; rfl

/-! ## What the two results hold at the end -/

/-- The second result at the end. -/
abbrev hEnd (c : Dev nD) : Vec F S10000x128 .f32 := hfin (V m c main_arg0) (V m c main_arg4) (V m c main_arg12)
/-- The first result at the end, before the reshape. -/
abbrev oEnd (c : Dev nD) : Vec F S10x1x1000 .f32 := ofin (V m c main_arg0) (V m c main_arg4) (V m c main_arg12) (V m c main_arg16)

/-- The contents after `n` points: the second result is written by the one point, every other buffer stays. -/
def contentsAt : ℕ → (c : Dev nD) → (b : Ref sig .tc) → Buf (Elt F) ((c : Thread nD τ).loc b)
  | 0, c => V m c
  | _ + 1, c => Function.update (V m c) main_v0_1 (hEnd m c)

theorem contentsAt_succ (n : ℕ) (c : Dev nD) : contentsAt m (n + 1) c main_v0_1 = hEnd m c :=
  Function.update_self (β := fun b : Ref sig .tc => Buf (Elt F) ((c : Thread nD τ).loc b)) main_v0_1 (hEnd m c) (V m c)

/-- The proof data of the one pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => V m c main_arg4
    | ⟨1, _⟩ => V m c main_arg12
    | ⟨2, _⟩ => V m c main_arg16
    | ⟨3, _⟩ => oEnd m c
    | ⟨_ + 4, h⟩ => absurd h (Nat.not_lt.2 (Nat.le_add_left _ _))
  Φ i := Pipeline.ΦDRV osem0 spec0 H0 R0 (V m) (contentsAt m i.val) c
  q _ := fullShare
  owed _ := 0

theorem A_eq (c : Dev nD) (w : Fin cfg0.W) : (dats m 0 c).A w = V m c (Pipeline.arrRef spec0 w) := by
  dsimp only [dats]

/-! ## The windows: each block is its whole array -/

theorem iblk0 (c : Dev nD) (t : Fin cfg0.N) : iblk m c 0 t = V m c main_arg4 := by
  funext y; unfold iblk; rw [View.read_apply]
  refine congrArg (V m c main_arg4) ?_
  funext a; apply Fin.ext; exact Window.rect_emb_val_of_index_zero win0_0 t a rfl y
theorem iblk1 (c : Dev nD) (t : Fin cfg0.N) : iblk m c 1 t = V m c main_arg12 := by
  funext y; unfold iblk; rw [View.read_apply]
  refine congrArg (V m c main_arg12) ?_
  funext a; apply Fin.ext; exact Window.rect_emb_val_of_index_zero win0_1 t a rfl y
theorem iblk2 (c : Dev nD) (t : Fin cfg0.N) : iblk m c 2 t = V m c main_arg16 := by
  funext y; unfold iblk; rw [View.read_apply]
  refine congrArg (V m c main_arg16) ?_
  funext a; apply Fin.ext; exact Window.rect_emb_val_of_index_zero win0_2 t a rfl y

/-! A staged input is in its buffer when the body starts. -/

theorem before0 (c : Dev nD) (t : Fin cfg0.N) (d) : (dats m 0 c).before 0 t d = V m c main_arg4 :=
  (((dats m 0 c).before_fetched 0 t (fetch0_0 t) d).trans
    (by unfold Dat.fetched Dat.blockOf; rw [A_eq]; rfl : _ = iblk m c 0 t)).trans (iblk0 m c t)
theorem before1 (c : Dev nD) (t : Fin cfg0.N) (d) : (dats m 0 c).before 1 t d = V m c main_arg12 :=
  (((dats m 0 c).before_fetched 1 t (fetch0_1 t) d).trans
    (by unfold Dat.fetched Dat.blockOf; rw [A_eq]; rfl : _ = iblk m c 1 t)).trans (iblk1 m c t)
theorem before2 (c : Dev nD) (t : Fin cfg0.N) (d) : (dats m 0 c).before 2 t d = V m c main_arg16 :=
  (((dats m 0 c).before_fetched 2 t (fetch0_2 t) d).trans
    (by unfold Dat.fetched Dat.blockOf; rw [A_eq]; rfl : _ = iblk m c 2 t)).trans (iblk2 m c t)

/-- The first result, before the reshape, after the last write-back. -/
theorem final_out (c : Dev nD) : (dats m 0 c).arrAt 3 cfg0.N = oEnd m c :=
  (dats m 0 c).arrAt_eq_of_after_last 3 t0_0 (by decide +kernel) _ fun j => rfl

/-! ## The body at the point -/

theorem invariant_eq (n : ℕ) (c : Dev nD) :
    (Pipeline.ΦDRV osem0 spec0 H0 R0 (V m) (contentsAt m n) c : sProp 𝕄)
      = iprop(iprop((∃ f, pt c xbufM f) ∗ (∃ f, pt c hbufM f))
          ∗ iprop(semVal ((c : Thread nD τ), SemLoc.dma 4) 0 ∗ semVal ((c : Thread nD τ), SemLoc.dma 5) 0
            ∗ semVal ((c : Thread nD τ), SemLoc.dma 6) 0 ∗ semVal ((c : Thread nD τ), SemLoc.dma 7) 0
            ∗ semVal ((c : Thread nD τ), SemLoc.dma 8) 0 ∗ semVal ((c : Thread nD τ), SemLoc.dma 9) 0
            ∗ semVal ((c : Thread nD τ), SemLoc.dma 10) 0 ∗ semVal ((c : Thread nD τ), SemLoc.dma 11) 0
            ∗ semVal ((c : Thread nD τ), SemLoc.dma 12) 0 ∗ semVal ((c : Thread nD τ), SemLoc.dma 13) 0
            ∗ semVal ((c : Thread nD τ), SemLoc.dma 14) 0 ∗ semVal ((c : Thread nD τ), SemLoc.dma 15) 0)
          ∗ pt c xM (V m c main_arg0) ∗ pt c hM (contentsAt m n c main_v0_1)) := by
  unfold Pipeline.ΦDRV
  rw [scopedRest0_eq, ownSems00_eq, readPts_eq, writtenPts_eq]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦDRV osem0 spec0 H0 R0 (V m) (contentsAt m (t.val + 1)) c from rfl,
    show (dats m 0 c).Φ t.castSucc = Pipeline.ΦDRV osem0 spec0 H0 R0 (V m) (contentsAt m t.val) c from rfl,
    invariant_eq, invariant_eq, contentsAt_succ]
  unfold Dat.owesAt Pipeline.owesWithin
  rw [show (dats m 0 c).owed t.castSucc = 0 from rfl, show (dats m 0 c).owed t.succ = 0 from rfl]
  simp only [before0, before1, before2]
  iintro ⟨⟨⟨⟨%s0, Hs0⟩, ⟨%s1, Hs1⟩⟩, ⟨Hq4, Hq5, Hq6, Hq7, Hq8, Hq9, Hq10, Hq11, Hq12, Hq13, Hq14, Hq15⟩, Hx, Hh⟩, ⟨%W, -, HW⟩,
    ⟨%d0, H0⟩, ⟨%d1, H1⟩, ⟨%d2, H2⟩, ⟨%d3, H3⟩⟩
  iapply (body_run c _ _ _ _ _ _ _ _ (V m c main_arg0) (contentsAt m t.val c main_v0_1) s0 s1 (V m c main_arg4) (V m c main_arg12)
    (V m c main_arg16) W _)
  isplitl [H0]; · iexact H0
  isplitl [H1]; · iexact H1
  isplitl [H2]; · iexact H2
  isplitl [H3]; · iexists _; iexact H3
  iframe Hx Hh Hs0 Hs1 Hq4 Hq5 Hq6 Hq7 Hq8 Hq9 Hq10 Hq11 Hq12 Hq13 Hq14 Hq15 HW
  iintro ⟨H0, H1, H2, H3, Hx, Hh, Hs0, Hs1, Hq4, Hq5, Hq6, Hq7, Hq8, Hq9, Hq10, Hq11, Hq12, Hq13, Hq14, Hq15, ⟨%W', HW'⟩⟩
  isplitl [Hx Hh Hs0 Hs1 Hq4 Hq5 Hq6 Hq7 Hq8 Hq9 Hq10 Hq11 Hq12 Hq13 Hq14 Hq15]
  · iframe Hs0 Hs1 Hq4 Hq5 Hq6 Hq7 Hq8 Hq9 Hq10 Hq11 Hq12 Hq13 Hq14 Hq15 Hx Hh
  isplitl [HW']
  · iexists W'; isplitr; · ipureintro; exact fun _ _ => Or.inl trivial
    iexact HW'
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option maxHeartbeats 800000 in
/-- The program up to its one region and the lines after it, at this algebra. -/
theorem hmain (𝒱₀ : Variants) : Pipeline.HMainK (Ix := Unit) (Name := ℕ) (U := Pipeline.UD sig nD τ) (Lvl := ℕ) cfgs 0 defs₀ 𝒱₀ m
    (main (F := F)) (V m) (fun _ => Pipeline.chain ([hostOps1].map StableHlo.seq)) :=
  Pipeline.hmain_around cfgs 0 defs₀ 𝒱₀ m main [] [hostOps1] (by simp only [List.Forall]) (by simp only [List.Forall]) main_chain

/-- What every buffer holds when the region ends. -/
abbrev regionEnd (c : Dev nD) : Valuation τ sig (Elt F) :=
  Pipeline.withArrays spec0 c (Pipeline.withR (V0 m c) R0 c (contentsAt m 1 c)) fun w => (dats m 0 c).arrAt w cfg0.N

set_option backward.isDefEq.respectTransparency.types false in
theorem run_main : θ_run defs (onTc (τ := τ) (main (F := F))) (s₀ m ρ) (fun r => (∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b)
          = StableHlo.after ([hostOps1].flatten) (regionEnd m c) (Proc.devRef .tc b))
      ∧ r.2.sem = fun _ => 0) :=
  Pipeline.θ_run_frame_dmaR_aroundV (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := contentsAt m 1) (hmain := hmain m Variants.none) (hA := A_eq m)
    (hin := fun _ => .rfl) (hout := fun _ => .rfl)

/-! ## The state at the end -/

/-- The buffers that no line writes: they end as they were. -/
theorem kept (c : Dev nD) (b : Ref sig .tc) (hb : b ∈ Pipeline.restRefs sig spec0) (h0 : b ≠ main_v0_1) (h1 : b ≠ main_v1) :
    StableHlo.after ([hostOps1].flatten) (regionEnd m c) (Proc.devRef .tc b) = m ((c : Thread nD τ).loc b) := by
  rw [StableHlo.after_of_writes_sub (W := [main_v1]) _ _ (StableHlo.forall_writes_sub_of_map rfl) (by simpa using h1)]
  delta regionEnd
  rw [Pipeline.withArrays_of_ne _ c _ _ b (fun w e => (Finset.mem_sdiff.mp hb).2 (Finset.mem_image.mpr ⟨w, Finset.mem_univ _, e⟩)),
    Pipeline.withR_of_not_mem _ _ _ _ b (by simpa [R0] using h0)]
  rfl

theorem second_result (c : Dev nD) :
    StableHlo.after ([hostOps1].flatten) (regionEnd m c) (Proc.devRef .tc main_v0_1) = hEnd m c := by
  rw [StableHlo.after_of_writes_sub (W := [main_v1]) _ _ (StableHlo.forall_writes_sub_of_map rfl) (by decide)]
  delta regionEnd
  rw [Pipeline.withArrays_of_ne _ c _ _ main_v0_1 (by decide), Pipeline.withR_of_mem _ _ _ _ main_v0_1 (by decide), contentsAt_succ]

theorem first_result (c : Dev nD) :
    StableHlo.after ([hostOps1].flatten) (regionEnd m c) (Proc.devRef .tc main_v1)
      = shapeCast S10000x1 (oEnd m c) shapeCasts_S10x1x1000_S10000x1 := by
  have h : regionEnd m c (Proc.devRef .tc main_v0_0) = oEnd m c :=
    (Pipeline.withArrays_arr spec0 winFacts0.arr_inj c _ _ 3).trans (final_out m c)
  rw [List.flatten_cons, List.flatten_nil, List.append_nil, StableHlo.after_cons, StableHlo.after_nil, StableHlo.reshape_result, h]
  rfl

/-- Every argument is as it was. -/
abbrev ArgsKept (r : PUnit × MemSt nD τ sig (Elt F)) (c : Dev nD) : Prop :=
  r.2.mem ((c.tc : Thread nD τ).loc main_arg0) = m ((c.tc : Thread nD τ).loc main_arg0) ∧
  r.2.mem ((c.tc : Thread nD τ).loc main_arg1) = m ((c.tc : Thread nD τ).loc main_arg1) ∧
  r.2.mem ((c.tc : Thread nD τ).loc main_arg2) = m ((c.tc : Thread nD τ).loc main_arg2) ∧
  r.2.mem ((c.tc : Thread nD τ).loc main_arg3) = m ((c.tc : Thread nD τ).loc main_arg3) ∧
  r.2.mem ((c.tc : Thread nD τ).loc main_arg4) = m ((c.tc : Thread nD τ).loc main_arg4) ∧
  r.2.mem ((c.tc : Thread nD τ).loc main_arg5) = m ((c.tc : Thread nD τ).loc main_arg5) ∧
  r.2.mem ((c.tc : Thread nD τ).loc main_arg6) = m ((c.tc : Thread nD τ).loc main_arg6) ∧
  r.2.mem ((c.tc : Thread nD τ).loc main_arg7) = m ((c.tc : Thread nD τ).loc main_arg7) ∧
  r.2.mem ((c.tc : Thread nD τ).loc main_arg8) = m ((c.tc : Thread nD τ).loc main_arg8) ∧
  r.2.mem ((c.tc : Thread nD τ).loc main_arg9) = m ((c.tc : Thread nD τ).loc main_arg9) ∧
  r.2.mem ((c.tc : Thread nD τ).loc main_arg10) = m ((c.tc : Thread nD τ).loc main_arg10) ∧
  r.2.mem ((c.tc : Thread nD τ).loc main_arg11) = m ((c.tc : Thread nD τ).loc main_arg11) ∧
  r.2.mem ((c.tc : Thread nD τ).loc main_arg12) = m ((c.tc : Thread nD τ).loc main_arg12) ∧
  r.2.mem ((c.tc : Thread nD τ).loc main_arg13) = m ((c.tc : Thread nD τ).loc main_arg13) ∧
  r.2.mem ((c.tc : Thread nD τ).loc main_arg14) = m ((c.tc : Thread nD τ).loc main_arg14) ∧
  r.2.mem ((c.tc : Thread nD τ).loc main_arg15) = m ((c.tc : Thread nD τ).loc main_arg15) ∧
  r.2.mem ((c.tc : Thread nD τ).loc main_arg16) = m ((c.tc : Thread nD τ).loc main_arg16) ∧
  r.2.mem ((c.tc : Thread nD τ).loc main_arg17) = m ((c.tc : Thread nD τ).loc main_arg17)

/-- The state at the end: the two results named, the arguments as they were, the counters at zero. -/
theorem run : θ_run defs (onTc (τ := τ) (main (F := F))) ⟨m, fun _ => 0, ρ⟩ (fun r => (∀ c : Dev nD,
      r.2.mem ((c.tc : Thread nD τ).loc main_v1) = shapeCast S10000x1 (oEnd m c) shapeCasts_S10x1x1000_S10000x1
      ∧ r.2.mem ((c.tc : Thread nD τ).loc main_v0_1) = hEnd m c ∧ ArgsKept m r c) ∧ r.2.sem = fun _ => 0) := by
  refine (θ_run defs _ _).mono (fun r h => ⟨fun c => ?_, h.2⟩) (run_main m ρ)
  obtain ⟨hw, hr⟩ := h.1 c
  have k : ∀ b : Ref sig .tc, b ∈ Pipeline.restRefs sig spec0 ∧ b ≠ main_v0_1 ∧ b ≠ main_v1 →
      r.2.mem ((c.tc : Thread nD τ).loc b) = m ((c.tc : Thread nD τ).loc b) :=
    fun b hb => (hr b hb.1).trans (kept m c b hb.1 hb.2.1 hb.2.2)
  have a : ∀ w, (cfg0.win w).isOut = false → r.2.mem ((spec0 w).arr.view.loc (c.tc : Thread nD τ)) = V m c (Pipeline.arrRef spec0 w) :=
    fun w hin => (hw w).trans (((dats m 0 c).arrAt_in w hin _).trans (A_eq m c w))
  exact ⟨(hr main_v1 (by decide)).trans (first_result m c), (hr main_v0_1 (by decide)).trans (second_result m c),
    k main_arg0 (by decide), k main_arg1 (by decide), k main_arg2 (by decide), k main_arg3 (by decide), a 0 rfl, k main_arg5 (by decide), k main_arg6 (by decide), k main_arg7 (by decide), k main_arg8 (by decide), k main_arg9 (by decide), k main_arg10 (by decide), k main_arg11 (by decide), a 1 rfl, k main_arg13 (by decide), k main_arg14 (by decide), k main_arg15 (by decide), a 2 rfl, k main_arg17 (by decide)⟩

/-- The program terminates without a fault, leaves its arguments as they were and every counter at zero. -/
theorem frame : θ_run defs (onTc (τ := τ) (main (F := F))) ⟨m, fun _ => 0, ρ⟩ (fun r =>
    (∀ c : Dev nD, ArgsKept m r c) ∧ r.2.sem = fun _ => 0) :=
  (θ_run defs _ _).mono (fun _ h => ⟨fun c => (h.1 c).2.2, h.2⟩) (run m ρ)

end Cert.KernelIdeal.Hand

end
-- ==== Proof.Value.lean ====
/-
  Hand-written, untrusted. THE TWO RESULTS AS FORMULAS over the extended reals. With the state and the five biases it
  meets all zero, the reference's new state is `(1 - logistic (x Wxz)) * tanh (x Wxh)` and its output is that state times
  the last weight (`ref_state`, `ref_out`). A block of a thousand rows of a product is the product of the block, so the
  kernel's two results put together from its ten blocks are the same (`hfin_eq`, `ofin_eq`).
-/
module

public import proofs.«01_k».proof.Proof.Blocks
public import proofs.«01_k».proof.Proof.Gen.ReferenceIdeal
public import Idealize.ShloMosaic.Lib.MatmulPlain
public import Idealize.ShloMosaic.Lib.StackMember
public import Idealize.ShloMosaic.Lib.KernelVsHost
public import Idealize.ShloMosaic.Lib.IdealHost

@[expose] public section

set_option maxRecDepth 16384

noncomputable section

namespace Cert.Formula

open Idealize.ShloMosaic

/-- The all-zero array. -/
abbrev zeros (s : Shape) : FVec Ideal s .f32 := fun _ => (0 : EReal)

/-! ## The one formula both programs compute -/

/-- Entry `(r, c)` of a product of two matrices. -/
def prod {n k d : ℕ} (a : FVec Ideal ⟨2, ![n, k]⟩ .f32) (b : FVec Ideal ⟨2, ![k, d]⟩ .f32) (r : Fin n) (c : Fin d) : EReal :=
  ∑ j : Fin k, (a (ix2 r j) : EReal) * b (ix2 j c)

/-- The new state from the two products. -/
def state {n : ℕ} (x : FVec Ideal ⟨2, ![n, 256]⟩ .f32) (w1 w2 : FVec Ideal ⟨2, ![256, 128]⟩ .f32) : FVec Ideal ⟨2, ![n, 128]⟩ .f32 :=
  fun i => (1 - Ideal.logistic (prod x w1 (i 0) (i 1))) * Ideal.tanh (prod x w2 (i 0) (i 1))

end Cert.Formula

/-! ## The reference -/

namespace Cert.ReferenceIdeal.Hand

open Cert.ReferenceIdeal Cert.ReferenceIdeal.Gen Cert.Formula
open Idealize.ShloMosaic

/-- A host product, entry by entry. -/
theorem dot_x (x : FVec Ideal S10000x256 .f32) (w : FVec Ideal S256x128 .f32) :
    Host.dotGeneral dot_S10000x256_S256x128_S10000x128_1_0_0_1_n_n none x w = fun i => prod x w (i 0) (i 1) :=
  funext fun i => (congrArg _ (ix2_eta i).symm).trans (StackMember.dotGeneral_plain_apply none x w (i 0) (i 1))

theorem dot_h (h : FVec Ideal S10000x128 .f32) (w : FVec Ideal S128x128 .f32) :
    Host.dotGeneral dot_S10000x128_S128x128_S10000x128_1_0_0_1_n_n none h w = fun i => prod h w (i 0) (i 1) :=
  funext fun i => (congrArg _ (ix2_eta i).symm).trans (StackMember.dotGeneral_plain_apply none h w (i 0) (i 1))

theorem dot_o (h : FVec Ideal S10000x128 .f32) (w : FVec Ideal S128x1 .f32) :
    Host.dotGeneral dot_S10000x128_S128x1_S10000x1_1_0_0_1_n_n none h w = fun i => prod h w (i 0) (i 1) :=
  funext fun i => (congrArg _ (ix2_eta i).symm).trans (StackMember.dotGeneral_plain_apply none h w (i 0) (i 1))

/-- A product with the zero matrix is zero. -/
theorem prod_zero {n k d : ℕ} (b : FVec Ideal ⟨2, ![k, d]⟩ .f32) (r : Fin n) (c : Fin d) : prod (zeros ⟨2, ![n, k]⟩) b r c = 0 := by
  unfold prod
  exact Finset.sum_eq_zero fun j _ => zero_mul _

theorem sum_with_zeros (a d : EReal) (hd : d = 0) : ((a + 0) + d) + 0 = a := by rw [hd, add_zero, add_zero, add_zero]

/-- The reference's sum before a gate: two products and two biases. -/
abbrev pre (x : FVec Ideal S10000x256 .f32) (w : FVec Ideal S256x128 .f32) (b : FVec Ideal S128 .f32) (h : FVec Ideal S10000x128 .f32)
    (u : FVec Ideal S128x128 .f32) (b' : FVec Ideal S128 .f32) : FVec Ideal S10000x128 .f32 :=
  addf (addf (addf (Host.dotGeneral dot_S10000x256_S256x128_S10000x128_1_0_0_1_n_n none x w)
    (broadcastInDim S10000x128 ![0, 1] bcast_S1x128_S10000x128_0_1 (broadcastInDim S1x128 ![1] bcast_S128_S1x128_1 b)))
    (Host.dotGeneral dot_S10000x128_S128x128_S10000x128_1_0_0_1_n_n none h u))
    (broadcastInDim S10000x128 ![0, 1] bcast_S1x128_S10000x128_0_1 (broadcastInDim S1x128 ![1] bcast_S128_S1x128_1 b'))

/-- With the state and both biases zero only the input's product is left of it. -/
theorem pre_zero (x : FVec Ideal S10000x256 .f32) (w : FVec Ideal S256x128 .f32) (u : FVec Ideal S128x128 .f32) :
    pre x w (zeros S128) (zeros S10000x128) u (zeros S128) = fun i => prod x w (i 0) (i 1) := by
  unfold pre
  rw [dot_x, dot_h]
  funext i
  exact sum_with_zeros _ _ (prod_zero u (i 0) (i 1))

/-- The array of ones. -/
abbrev ones : FVec Ideal S10000x128 .f32 := broadcastInDim S10000x128 ![] bcast_S_S10000x128 (constant S_ .f32 0x3F800000#32)

/-- The reference's gate: one over one plus the exponential of the negated sum. -/
abbrev gate (a : FVec Ideal S10000x128 .f32) : FVec Ideal S10000x128 .f32 := Host.divf ones (addf ones (Host.exp (Host.negf a)))

theorem ones_apply (i : S10000x128.Idx) : ones i = (1 : EReal) := Ideal.ofBits_one_f32

theorem gate_apply (a : FVec Ideal S10000x128 .f32) (i : S10000x128.Idx) : gate a i = Ideal.logistic (a i) := by
  show Ideal.div (ones i) (ones i + Ideal.exp (-(a i : EReal))) = _
  rw [ones_apply]
  rfl

/-- The reference's new state: the old state and the candidate, mixed by the update gate. -/
abbrev newState (x : FVec Ideal S10000x256 .f32) (h : FVec Ideal S10000x128 .f32) (wz : FVec Ideal S256x128 .f32) (bz : FVec Ideal S128 .f32)
    (uz : FVec Ideal S128x128 .f32) (bz' : FVec Ideal S128 .f32) (wr : FVec Ideal S256x128 .f32) (br : FVec Ideal S128 .f32)
    (ur : FVec Ideal S128x128 .f32) (br' : FVec Ideal S128 .f32) (wh : FVec Ideal S256x128 .f32) (bh : FVec Ideal S128 .f32)
    (uh : FVec Ideal S128x128 .f32) (bh' : FVec Ideal S128 .f32) : FVec Ideal S10000x128 .f32 :=
  addf (mulf (gate (pre x wz bz h uz bz')) h)
    (mulf (subf ones (gate (pre x wz bz h uz bz'))) (Host.tanh (pre x wh bh (mulf h (gate (pre x wr br h ur br'))) uh bh')))

/-- With the state zero, its product with any gate is zero. -/
theorem zeros_mulf (g : FVec Ideal S10000x128 .f32) : mulf (zeros S10000x128) g = zeros S10000x128 := funext fun i => zero_mul _

theorem ref_state (x : FVec Ideal S10000x256 .f32) (wz : FVec Ideal S256x128 .f32) (uz : FVec Ideal S128x128 .f32) (wr : FVec Ideal S256x128 .f32)
    (br : FVec Ideal S128 .f32) (ur : FVec Ideal S128x128 .f32) (br' : FVec Ideal S128 .f32) (wh : FVec Ideal S256x128 .f32) (uh : FVec Ideal S128x128 .f32) :
    newState x (zeros S10000x128) wz (zeros S128) uz (zeros S128) wr br ur br' wh (zeros S128) uh (zeros S128) = state x wz wh := by
  unfold newState
  rw [zeros_mulf, pre_zero, pre_zero]
  funext i
  show gate _ i * (0 : EReal) + (ones i - gate _ i) * Ideal.tanh (prod x wh (i 0) (i 1)) = _
  rw [mul_zero, zero_add, ones_apply, gate_apply]
  rfl

theorem ref_out (s : FVec Ideal S10000x128 .f32) (w : FVec Ideal S128x1 .f32) :
    addf (Host.dotGeneral dot_S10000x128_S128x1_S10000x1_1_0_0_1_n_n none s w)
      (broadcastInDim S10000x1 ![0, 1] bcast_S1x1_S10000x1_0_1 (broadcastInDim S1x1 ![1] bcast_S1_S1x1_1 (zeros S1)))
      = fun i => prod s w (i 0) (i 1) := by
  rw [dot_o]
  funext i
  show prod s w (i 0) (i 1) + (0 : EReal) = _
  rw [add_zero]

end Cert.ReferenceIdeal.Hand

/-! ## The kernel -/

namespace Cert.KernelIdeal.Hand

open Cert.KernelIdeal Cert.KernelIdeal.Gen Cert.Formula
open Idealize.ShloMosaic

/-- A block of the kernel's product, entry by entry. -/
theorem mm_x (x : FVec Ideal S1000x256 .f32) (w : FVec Ideal S256x128 .f32) (i : S1000x128.Idx) :
    matmul dot_S1000x256_S256x128_S1000x128_1_0_0_1_n_n none x w (constant S1000x128 .f32 0x00000000#32) i = prod x w (i 0) (i 1) :=
  (congrArg _ (ix2_eta i).symm).trans ((Ideal.matmul_plain_apply none x w _ (i 0) (i 1)).trans
    ((congrArg (· + prod x w (i 0) (i 1)) Ideal.ofBits_zero_f32).trans (zero_add _)))

theorem mm_o (h : FVec Ideal S1000x128 .f32) (w : FVec Ideal S128x1 .f32) (i : S1000x1.Idx) :
    matmul dot_S1000x128_S128x1_S1000x1_1_0_0_1_n_n none h w (constant S1000x1 .f32 0x00000000#32) i = prod h w (i 0) (i 1) :=
  (congrArg _ (ix2_eta i).symm).trans ((Ideal.matmul_plain_apply none h w _ (i 0) (i 1)).trans
    ((congrArg (· + prod h w (i 0) (i 1)) Ideal.ofBits_zero_f32).trans (zero_add _)))

/-- The state rows of a block are the formula at the block. -/
theorem pay5_eq (x : FVec Ideal S1000x256 .f32) (w1 w2 : FVec Ideal S256x128 .f32) : k0_pay5 x w1 w2 = state x w1 w2 := by
  funext i
  show (Ideal.ofBits .f32 0x3F800000#32 - Ideal.logistic (matmul dot_S1000x256_S256x128_S1000x128_1_0_0_1_n_n none x w1 (constant S1000x128 .f32 0x00000000#32) i))
    * Ideal.tanh (matmul dot_S1000x256_S256x128_S1000x128_1_0_0_1_n_n none x w2 (constant S1000x128 .f32 0x00000000#32) i) = _
  rw [mm_x, mm_x, Ideal.ofBits_one_f32]
  rfl

/-- The output row of a block: entry `y` is row `y` of the block's product. -/
theorem pay7_apply (h : FVec Ideal S1000x128 .f32) (w : FVec Ideal S128x1 .f32) (y : Fin 1000) :
    k0_pay7 h w (ix3 (0 : Fin 1) (0 : Fin 1) y) = prod h w y (0 : Fin 1) := by
  unfold k0_pay7
  refine (shapeCast_apply _ _ _ (ix2 (0 : Fin 1) y) ?_).trans ?_
  · rw [Shape.rowMajor_val_two, Shape.rowMajor_val_three]
    show 0 * 1000 + y.val = (0 * 1 + 0) * 1000 + y.val
    omega
  refine (shapeCast_apply _ _ _ (ix2 y (0 : Fin 1)) ?_).trans ?_
  · rw [Shape.rowMajor_val_two, Shape.rowMajor_val_two]
    show y.val * 1 + 0 = 0 * 1000 + y.val
    omega
  exact mm_o h w (ix2 y (0 : Fin 1))

/-- A block of a product is the product of the block. -/
theorem prod_xrows (x : FVec Ideal S10000x256 .f32) (w : FVec Ideal S256x128 .f32) (k : Fin 10) (y : Fin 1000) (r : Fin 10000)
    (e : r.val = 1000 * k.val + y.val) (c : Fin 128) : prod (xrows (F := Ideal) x k) w y c = prod x w r c := by
  unfold prod
  refine Finset.sum_congr rfl fun j _ => congrArg (· * (w (ix2 j c) : EReal)) ?_
  exact congrArg x (congrArg (ix2 · j) (Fin.ext e.symm))

/-- So a block's state rows are rows of the whole state. -/
theorem hblk_apply (x : FVec Ideal S10000x256 .f32) (w1 w2 : FVec Ideal S256x128 .f32) (k : Fin 10) (y : Fin 1000) (r : Fin 10000)
    (e : r.val = 1000 * k.val + y.val) (c : Fin 128) : hblk (F := Ideal) x w1 w2 k (ix2 y c) = state x w1 w2 (ix2 r c) := by
  unfold hblk
  rw [pay5_eq]
  show (1 - Ideal.logistic (prod (xrows (F := Ideal) x k) w1 y c)) * Ideal.tanh (prod (xrows (F := Ideal) x k) w2 y c)
    = (1 - Ideal.logistic (prod x w1 r c)) * Ideal.tanh (prod x w2 r c)
  rw [prod_xrows x w1 k y r e c, prod_xrows x w2 k y r e c]

/-- The state rows put together. -/
theorem hfin_eq (x : FVec Ideal S10000x256 .f32) (w1 w2 : FVec Ideal S256x128 .f32) : hfin (F := Ideal) x w1 w2 = state x w1 w2 := by
  funext i
  have h0 : (i (0 : Fin 2)).val < 10000 := (i (0 : Fin 2)).isLt
  have e : (i (0 : Fin 2)).val = 1000 * ((i (0 : Fin 2)).val / 1000) + (i (0 : Fin 2)).val % 1000 := (Nat.div_add_mod _ 1000).symm
  refine (hblk_apply x w1 w2 ⟨(i (0 : Fin 2)).val / 1000, by omega⟩ ⟨(i (0 : Fin 2)).val % 1000, by omega⟩ (i (0 : Fin 2)) e (i (1 : Fin 2))).trans ?_
  exact congrArg _ (ix2_eta i)

/-- The output put together and laid out as one column. -/
theorem ofin_eq (x : FVec Ideal S10000x256 .f32) (w1 w2 : FVec Ideal S256x128 .f32) (w3 : FVec Ideal S128x1 .f32) :
    shapeCast S10000x1 (ofin (F := Ideal) x w1 w2 w3) shapeCasts_S10x1x1000_S10000x1 = fun i => prod (state x w1 w2) w3 (i 0) (i 1) := by
  funext i
  have h0 : (i (0 : Fin 2)).val < 10000 := (i (0 : Fin 2)).isLt
  have h1 : i (1 : Fin 2) = (0 : Fin 1) := Subsingleton.elim (α := Fin 1) _ _
  have e : (i (0 : Fin 2)).val = 1000 * ((i (0 : Fin 2)).val / 1000) + (i (0 : Fin 2)).val % 1000 := (Nat.div_add_mod _ 1000).symm
  refine (shapeCast_apply _ _ _ (ix3 (⟨(i (0 : Fin 2)).val / 1000, by omega⟩ : Fin 10) (0 : Fin 1) (⟨(i (0 : Fin 2)).val % 1000, by omega⟩ : Fin 1000)) ?_).trans ?_
  · rw [Shape.rowMajor_val_two, Shape.rowMajor_val_three, h1]
    show ((i (0 : Fin 2)).val / 1000 * 1 + 0) * 1000 + (i (0 : Fin 2)).val % 1000 = (i (0 : Fin 2)).val * 1 + 0
    omega
  refine (pay7_apply _ w3 _).trans ?_
  rw [h1]
  unfold prod
  exact Finset.sum_congr rfl fun j _ => congrArg (· * (w3 (ix2 j (0 : Fin 1)) : EReal)) (hblk_apply x w1 w2 _ _ (i (0 : Fin 2)) e j)

end Cert.KernelIdeal.Hand

end
-- ==== Proof.Fresh.lean ====
/-
  Hand-written, untrusted. WHAT THE PRECONDITION SAYS. It is six conditions, each of them that every entry of one array
  compares equal to zero. Over the extended reals that is that the array is zero (`eq_zeros`).
-/
module

public import proofs.«01_k».proof.Pre_fresh_state
public import proofs.«01_k».proof.Proof.Value
public import Idealize.ShloMosaic.Lib.ReduceAll

@[expose] public section

noncomputable section

namespace Cert.Pre_fresh_state.Hand

open Cert.Pre_fresh_state Cert.Formula
open Idealize.ShloMosaic

/-- The shape relations that the precondition's operations state. -/
theorem facts : Cert.Pre_fresh_state.Facts where
  bcast_S_S10000x128 := by decide
  reducesTo_S10000x128_S_d0_1 := by decide
  h_S_ := by decide
  bcast_S_S128 := by decide
  reducesTo_S128_S_d0 := by decide
  bcast_S_S1 := by decide
  reducesTo_S1_S_d0 := by decide

/-- Whether every entry of an array compares equal to zero. -/
def allZero {F : FTy → Type} [FloatOps F] {s : Shape} {axes : List (Fin s.rank)} (x : FVec F s .f32) (hb : S_.BroadcastsInDim s (![] : Fin 0 → Fin s.rank))
    (hr : s.ReducesTo axes S_) (hu : 0 < S_.numel) : IVec S_ 1 :=
  Host.reduce IntOp.andi (cmpf .oeq x (broadcastInDim s ![] hb (constant S_ .f32 0x00000000#32))) (constantI S_ 1 1#1) hr hu

/-- An array whose every entry compares equal to zero is the zero array. -/
theorem eq_zeros {s : Shape} {axes : List (Fin s.rank)} (x : FVec Ideal s .f32) (hb : S_.BroadcastsInDim s (![] : Fin 0 → Fin s.rank))
    (hr : s.ReducesTo axes S_) (hu : 0 < S_.numel)
    (h : allZero x hb hr hu = fun _ => 1#1) :
    x = zeros s := by
  haveI : Subsingleton S_.Idx := ⟨fun a b => funext fun k => k.elim0⟩
  funext i
  have e : BitVec.ofBool (decide ((x i : EReal) = Ideal.ofBits .f32 0x00000000#32)) = 1#1 :=
    Host.reduce_andi_all _ _ hr hu (fun k => k.elim0) (congrFun h _) i
  rw [Ideal.ofBits_zero_f32] at e
  by_contra hne
  rw [decide_eq_false hne] at e
  exact absurd e (by decide)

/-- The precondition's six conditions, named. -/
theorem fn_eq [Facts] {F : FTy → Type} [FloatOps F] (a0 : FVec F S10000x256 .f32) (a1 : IVec S2x160000 32) (a2 : FVec F S160000 .f32) (a3 : FVec F S10000x128 .f32) (a4 : FVec F S256x128 .f32) (a5 : FVec F S128 .f32) (a6 : FVec F S128x128 .f32) (a7 : FVec F S128 .f32) (a8 : FVec F S256x128 .f32) (a9 : FVec F S128 .f32) (a10 : FVec F S128x128 .f32) (a11 : FVec F S128 .f32) (a12 : FVec F S256x128 .f32) (a13 : FVec F S128 .f32) (a14 : FVec F S128x128 .f32) (a15 : FVec F S128 .f32) (a16 : FVec F S128x1 .f32) (a17 : FVec F S1 .f32) :
    fn (F := F) a0 a1 a2 a3 a4 a5 a6 a7 a8 a9 a10 a11 a12 a13 a14 a15 a16 a17
      = (allZero a3 Facts.bcast_S_S10000x128 Facts.reducesTo_S10000x128_S_d0_1 Facts.h_S_, allZero a5 Facts.bcast_S_S128 Facts.reducesTo_S128_S_d0 Facts.h_S_,
        allZero a7 Facts.bcast_S_S128 Facts.reducesTo_S128_S_d0 Facts.h_S_, allZero a13 Facts.bcast_S_S128 Facts.reducesTo_S128_S_d0 Facts.h_S_,
        allZero a15 Facts.bcast_S_S128 Facts.reducesTo_S128_S_d0 Facts.h_S_, allZero a17 Facts.bcast_S_S1 Facts.reducesTo_S1_S_d0 Facts.h_S_) := rfl

/-- Under the precondition the six arrays are zero. -/
theorem zeros_of_fn [Facts] (a0 : FVec Ideal S10000x256 .f32) (a1 : IVec S2x160000 32) (a2 : FVec Ideal S160000 .f32) (a3 : FVec Ideal S10000x128 .f32) (a4 : FVec Ideal S256x128 .f32) (a5 : FVec Ideal S128 .f32) (a6 : FVec Ideal S128x128 .f32) (a7 : FVec Ideal S128 .f32) (a8 : FVec Ideal S256x128 .f32) (a9 : FVec Ideal S128 .f32) (a10 : FVec Ideal S128x128 .f32) (a11 : FVec Ideal S128 .f32) (a12 : FVec Ideal S256x128 .f32) (a13 : FVec Ideal S128 .f32) (a14 : FVec Ideal S128x128 .f32) (a15 : FVec Ideal S128 .f32) (a16 : FVec Ideal S128x1 .f32) (a17 : FVec Ideal S1 .f32)
    (h : (fn (F := Ideal) a0 a1 a2 a3 a4 a5 a6 a7 a8 a9 a10 a11 a12 a13 a14 a15 a16 a17).1 = (fun _ => 1#1) ∧ (fn (F := Ideal) a0 a1 a2 a3 a4 a5 a6 a7 a8 a9 a10 a11 a12 a13 a14 a15 a16 a17).2.1 = (fun _ => 1#1)
      ∧ (fn (F := Ideal) a0 a1 a2 a3 a4 a5 a6 a7 a8 a9 a10 a11 a12 a13 a14 a15 a16 a17).2.2.1 = (fun _ => 1#1) ∧ (fn (F := Ideal) a0 a1 a2 a3 a4 a5 a6 a7 a8 a9 a10 a11 a12 a13 a14 a15 a16 a17).2.2.2.1 = (fun _ => 1#1)
      ∧ (fn (F := Ideal) a0 a1 a2 a3 a4 a5 a6 a7 a8 a9 a10 a11 a12 a13 a14 a15 a16 a17).2.2.2.2.1 = (fun _ => 1#1) ∧ (fn (F := Ideal) a0 a1 a2 a3 a4 a5 a6 a7 a8 a9 a10 a11 a12 a13 a14 a15 a16 a17).2.2.2.2.2 = (fun _ => 1#1)) :
    a3 = zeros S10000x128 ∧ a5 = zeros S128 ∧ a7 = zeros S128 ∧ a13 = zeros S128 ∧ a15 = zeros S128 ∧ a17 = zeros S1 := by
  rw [fn_eq] at h
  dsimp only at h
  obtain ⟨p3, p5, p7, p13, p15, p17⟩ := h
  exact ⟨eq_zeros a3 _ _ _ p3, eq_zeros a5 _ _ _ p5, eq_zeros a7 _ _ _ p7, eq_zeros a13 _ _ _ p13, eq_zeros a15 _ _ _ p15, eq_zeros a17 _ _ _ p17⟩

end Cert.Pre_fresh_state.Hand

end
-- ==== Proof.lean ====
/-
  Hand-written, untrusted. THE CLAIMS. The kernel's frame and its two results are read off one theorem (`Cert.KernelIdeal.Hand.run`),
  at the word instance for the kernel as it runs and at the extended reals for the ideal one. The reference's run is the
  list of its operations. The two programs' results are the same formula (Proof/Value.lean) once the state and five biases are zero.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Value
public import proofs.«01_k».proof.Proof.Fresh
public import Idealize.ShloMosaic.Lib.Tactic

@[expose] public section

set_option maxRecDepth 16384

noncomputable section

namespace Cert.Proof

open Idealize.ShloMosaic Idealize.SL.Sem Idealize.ShloMosaic.Tactic

/-- At the word instance the ideal kernel is the kernel: nothing was rewritten, so the two programs' runs are one. -/
theorem same_run (m : (ℓ : Loc Cert.Kernel.nD Cert.Kernel.τ Cert.Kernel.sig) → Buf (Elt Bits) ℓ) (g : Dev Cert.Kernel.nD → PrngReg)
    (Q : PUnit × MemSt Cert.Kernel.nD Cert.Kernel.τ Cert.Kernel.sig (Elt Bits) → Prop) :
    θ_run (Cert.KernelIdeal.defs (F := Bits)) (onTc (τ := Cert.KernelIdeal.τ) (Cert.KernelIdeal.main (F := Bits))) ⟨m, fun _ => 0, g⟩ Q =
    θ_run (Cert.Kernel.defs (F := Bits)) (onTc (τ := Cert.Kernel.τ) (Cert.Kernel.main (F := Bits))) ⟨m, fun _ => 0, g⟩ Q := by
  sl_kernel_rfl

/-- The kernel terminates, keeps its arguments and leaves every semaphore counter at zero. -/
theorem quiescent_Kernel : Cert.quiescent_Kernel (hKernel := Cert.Kernel.Gen.facts) := fun m g _ =>
  (same_run m g _).mp (Cert.KernelIdeal.Hand.frame (F := Bits) m g)

/-- So does the ideal kernel. -/
theorem quiescent_KernelIdeal : Cert.quiescent_KernelIdeal (hKernelIdeal := Cert.KernelIdeal.Gen.facts) := fun m g _ =>
  Cert.KernelIdeal.Hand.frame (F := Ideal) m g

/-- And the reference, which has no semaphore. -/
theorem quiescent_ReferenceIdeal : Cert.quiescent_ReferenceIdeal (hReferenceIdeal := Cert.ReferenceIdeal.Gen.facts) := fun m g _ =>
  (θ_run Cert.ReferenceIdeal.defs _ _).mono (fun r h => ⟨fun c => (h c).2.2, sem_eq_zero_of_no_sems (by decide) r.2⟩)
    (Cert.ReferenceIdeal.Value.run (F := Ideal) m g)

/-- Over the extended reals the kernel and the reference end with the same two results. -/
theorem algebraic : Cert.algebraic_KernelIdeal_ReferenceIdeal_pre_fresh_state (hKernelIdeal := Cert.KernelIdeal.Gen.facts)
    (hReferenceIdeal := Cert.ReferenceIdeal.Gen.facts) (hPre_fresh_state := Cert.Pre_fresh_state.Hand.facts) := by
  intro m g m' g' hpre hag
  haveI := Cert.Pre_fresh_state.Hand.facts
  refine ⟨fun c => shapeCast Cert.KernelIdeal.S10000x1 (Cert.KernelIdeal.Hand.oEnd m c) Cert.KernelIdeal.Gen.shapeCasts_S10x1x1000_S10000x1,
    fun c => Cert.KernelIdeal.Hand.hEnd m c, ?_, ?_⟩
  · refine (θ_run Cert.KernelIdeal.defs _ _).mono ?_ (Cert.KernelIdeal.Hand.run (F := Ideal) m g)
    intro r h
    exact h.1
  refine (θ_run Cert.ReferenceIdeal.defs _ _).mono (fun r h c => ?_) (Cert.ReferenceIdeal.Value.run (F := Ideal) m' g')
  obtain ⟨a0, a1, a2, a3, a4, a5, a6, a7, a8, a9, a10, a11, a12, a13, a14, a15, a16, a17⟩ := hag c
  obtain ⟨p3, p5, p7, p13, p15, p17⟩ := Cert.Pre_fresh_state.Hand.zeros_of_fn _ _ _ _ _ _ _ _ _ _ _ _ _ _ _ _ _ _ (hpre c)
  have z3 := a3.trans p3
  have z5 := a5.trans p5
  have z7 := a7.trans p7
  have z13 := a13.trans p13
  have z15 := a15.trans p15
  have z17 := a17.trans p17
  obtain ⟨ho, hs, hargs⟩ := h c
  rw [z3, z5, z7, z13, z15, a0, a4, a12] at hs
  rw [z3, z5, z7, z13, z15, z17, a0, a4, a12, a16] at ho
  refine ⟨ho.trans ?_, hs.trans ?_, hargs⟩
  · refine (congrArg (fun s => addf (Host.dotGeneral _ none s _) _) (Cert.ReferenceIdeal.Hand.ref_state _ _ _ _ _ _ _ _ _)).trans ?_
    exact (Cert.ReferenceIdeal.Hand.ref_out _ _).trans (Cert.KernelIdeal.Hand.ofin_eq _ _ _ _).symm
  · exact (Cert.ReferenceIdeal.Hand.ref_state _ _ _ _ _ _ _ _ _).trans (Cert.KernelIdeal.Hand.hfin_eq _ _ _).symm

end Cert.Proof

/-- All the claims. -/
theorem Cert.Proof.claim : Cert.Claim :=
  ⟨Cert.Kernel.Gen.facts, Cert.KernelIdeal.Gen.facts, Cert.ReferenceIdeal.Gen.facts, Cert.Pre_fresh_state.Hand.facts,
    Cert.Proof.quiescent_Kernel, Cert.Proof.quiescent_KernelIdeal, fun m g _ => Cert.Proof.quiescent_KernelIdeal m g trivial,
    Cert.Proof.quiescent_ReferenceIdeal, fun m g _ => Cert.Proof.quiescent_ReferenceIdeal m g trivial, trivial, Cert.Proof.algebraic⟩

end
